-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_and_finite [hPre_sorted_and_finite : Cert.Pre_sorted_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_and_finite [hPre_sorted_and_finite : Cert.Pre_sorted_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_sorted_and_finite [hKernelIdeal : Cert.KernelIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sorted_and_finite [hReferenceIdeal : Cert.ReferenceIdeal.Facts] [hPre_sorted_and_finite : Cert.Pre_sorted_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xC1F00000#32 ⊥

def algebraic_KernelIdeal_ReferenceIdeal_pre_sorted_and_finite [hKernelIdeal : Cert.KernelIdeal.Facts] [hReferenceIdeal : Cert.ReferenceIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_sorted_and_finite : Cert.Pre_sorted_and_finite.Facts),
    quiescent_Kernel (hKernel := hKernel)
    ∧ quiescent_KernelIdeal (hKernelIdeal := hKernelIdeal)
    ∧ quiescent_KernelIdeal_pre_sorted_and_finite (hKernelIdeal := hKernelIdeal) (hPre_sorted_and_finite := hPre_sorted_and_finite)
    ∧ quiescent_ReferenceIdeal (hReferenceIdeal := hReferenceIdeal)
    ∧ quiescent_ReferenceIdeal_pre_sorted_and_finite (hReferenceIdeal := hReferenceIdeal) (hPre_sorted_and_finite := hPre_sorted_and_finite)
    ∧ preserves_Kernel_KernelIdeal
    ∧ algebraic_KernelIdeal_ReferenceIdeal_pre_sorted_and_finite (hKernelIdeal := hKernelIdeal) (hReferenceIdeal := hReferenceIdeal) (hPre_sorted_and_finite := hPre_sorted_and_finite)
-- ==== Pre_sorted_and_finite.lean ====
abbrev S256x256x768 : Shape := ⟨3, ![256, 256, 768]⟩
abbrev S256x256 : Shape := ⟨2, ![256, 256]⟩
abbrev S256 : Shape := ⟨1, ![256]⟩
abbrev S768x768 : Shape := ⟨2, ![768, 768]⟩
abbrev S255 : Shape := ⟨1, ![255]⟩
abbrev S_ : Shape := ⟨0, ![]⟩

class Facts : Prop where
  slices_S256_S255_0 : S256.Slices ![0] S255
  slices_S256_S255_1 : S256.Slices ![1] S255
  bcast_S_S256x256x768 : S_.BroadcastsInDim S256x256x768 (![] : Fin 0 → Fin S256x256x768.rank)
  bcast_S_S768x768 : S_.BroadcastsInDim S768x768 (![] : Fin 0 → Fin S768x768.rank)

variable [Facts]

def fn {F : FTy → Type} [FloatOps F] (main_arg0 : FVec F S256x256x768 .f32) (main_arg1 : IVec S256x256 1) (main_arg2 : IVec S256 32) (main_arg3 : FVec F S768x768 .f32) (main_arg4 : FVec F S768x768 .f32) (main_arg5 : FVec F S768x768 .f32) (main_arg6 : FVec F S768x768 .f32) : IVec S255 1 × IVec S256x256x768 1 × IVec S768x768 1 × IVec S768x768 1 :=
  let main_v0 : IVec S255 32 := (extractStridedSlice S255 ![0] · slices_S256_S255_0) main_arg2
  let main_v1 : IVec S255 32 := (extractStridedSlice S255 ![1] · slices_S256_S255_1) main_arg2
  let main_v2 : IVec S255 1 := cmpi .sle main_v0 main_v1
  let main_v3 : FVec F S256x256x768 .f32 := Host.absf main_arg0
  let main_cst : FVec F S_ .f32 := constant S_ .f32 0x7F800000#32
  let main_v4 : FVec F S256x256x768 .f32 := broadcastInDim S256x256x768 ![] bcast_S_S256x256x768 main_cst
  let main_v5 : IVec S256x256x768 1 := cmpf .olt main_v3 main_v4
  let main_v6 : FVec F S768x768 .f32 := Host.absf main_arg3
  let main_cst_0 : FVec F S_ .f32 := constant S_ .f32 0x7F800000#32
  let main_v7 : FVec F S768x768 .f32 := broadcastInDim S768x768 ![] bcast_S_S768x768 main_cst_0
  let main_v8 : IVec S768x768 1 := cmpf .olt main_v6 main_v7
  let main_v9 : FVec F S768x768 .f32 := Host.absf main_arg4
  let main_cst_1 : FVec F S_ .f32 := constant S_ .f32 0x7F800000#32
  let main_v10 : FVec F S768x768 .f32 := broadcastInDim S768x768 ![] bcast_S_S768x768 main_cst_1
  let main_v11 : IVec S768x768 1 := cmpf .olt main_v9 main_v10
  (main_v2, main_v5, main_v8, main_v11)
-- ==== Kernel.lean ====
abbrev S256x256x768 : Shape := ⟨3, ![256, 256, 768]⟩
abbrev S256x256 : Shape := ⟨2, ![256, 256]⟩
abbrev S256 : Shape := ⟨1, ![256]⟩
abbrev S768x768 : Shape := ⟨2, ![768, 768]⟩
abbrev S_ : Shape := ⟨0, ![]⟩
abbrev S4x256x768 : Shape := ⟨3, ![4, 256, 768]⟩
abbrev S1024x768 : Shape := ⟨2, ![1024, 768]⟩
abbrev S1024x1536 : Shape := ⟨2, ![1024, 1536]⟩
abbrev S1024x12x64 : Shape := ⟨3, ![1024, 12, 64]⟩
abbrev S1024x12x128 : Shape := ⟨3, ![1024, 12, 128]⟩
abbrev S256x64 : Shape := ⟨2, ![256, 64]⟩
abbrev S256x128 : Shape := ⟨2, ![256, 128]⟩
abbrev S256x1 : Shape := ⟨2, ![256, 1]⟩

abbrev nBuf : Space → Nat
  | .hbm => 19
  | .vmem => 12
  | .smem => 0
  | _ => 0

abbrev bufTy : (tb : Table) → Fin (tcTables nBuf tb) → BufTy
  | .hbm, ⟨0, _⟩ => ⟨S256x256x768, .f32⟩
  | .hbm, ⟨1, _⟩ => ⟨S256x256, .i1⟩
  | .hbm, ⟨2, _⟩ => ⟨S256, .i32⟩
  | .hbm, ⟨3, _⟩ => ⟨S768x768, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S768x768, .f32⟩
  | .hbm, ⟨8, _⟩ => ⟨S_, .f32⟩
  | .hbm, ⟨9, _⟩ => ⟨S768x768, .f32⟩
  | .hbm, ⟨10, _⟩ => ⟨S768x768, .f32⟩
  | .hbm, ⟨11, _⟩ => ⟨S768x768, .bf16⟩
  | .hbm, ⟨12, _⟩ => ⟨S768x768, .f32⟩
  | .hbm, ⟨13, _⟩ => ⟨S768x768, .bf16⟩
  | .hbm, ⟨14, _⟩ => ⟨S768x768, .f32⟩
  | .hbm, ⟨15, _⟩ => ⟨S768x768, .bf16⟩
  | .hbm, ⟨16, _⟩ => ⟨S768x768, .f32⟩
  | .hbm, ⟨17, _⟩ => ⟨S768x768, .bf16⟩
  | .hbm, ⟨18, _⟩ => ⟨S256x256x768, .f32⟩
  | .local _ .vmem, ⟨0, _⟩ => ⟨S4x256x768, .f32⟩
  | .local _ .vmem, ⟨1, _⟩ => ⟨S4x256x768, .f32⟩
  | .local _ .vmem, ⟨2, _⟩ => ⟨S768x768, .bf16⟩
  | .local _ .vmem, ⟨3, _⟩ => ⟨S768x768, .bf16⟩
  | .local _ .vmem, ⟨4, _⟩ => ⟨S768x768, .bf16⟩
  | .local _ .vmem, ⟨5, _⟩ => ⟨S768x768, .bf16⟩
  | .local _ .vmem, ⟨6, _⟩ => ⟨S4x256x768, .f32⟩
  | .local _ .vmem, ⟨7, _⟩ => ⟨S4x256x768, .f32⟩
  | .local _ .vmem, ⟨8, _⟩ => ⟨S1024x768, .bf16⟩
  | .local _ .vmem, ⟨9, _⟩ => ⟨S1024x768, .bf16⟩
  | .local _ .vmem, ⟨10, _⟩ => ⟨S1024x1536, .bf16⟩
  | .local _ .vmem, ⟨11, _⟩ => ⟨S1024x768, .bf16⟩
  | _, _ => ⟨S256x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S256x256x768 : Shape := ⟨3, ![256, 256, 768]⟩
abbrev S256x256 : Shape := ⟨2, ![256, 256]⟩
abbrev S256 : Shape := ⟨1, ![256]⟩
abbrev S768x768 : Shape := ⟨2, ![768, 768]⟩
abbrev S256x256x12x64 : Shape := ⟨4, ![256, 256, 12, 64]⟩
abbrev S_ : Shape := ⟨0, ![]⟩
abbrev S256x1 : Shape := ⟨2, ![256, 1]⟩
abbrev S1 : Shape := ⟨1, ![1]⟩
abbrev S1x1 : Shape := ⟨2, ![1, 1]⟩
abbrev S256x8x32x12x64 : Shape := ⟨5, ![256, 8, 32, 12, 64]⟩
abbrev S256x8x12x32x32 : Shape := ⟨5, ![256, 8, 12, 32, 32]⟩
abbrev S256x8x12x32 : Shape := ⟨4, ![256, 8, 12, 32]⟩
abbrev S256x8x12x32x1 : Shape := ⟨5, ![256, 8, 12, 32, 1]⟩
abbrev S256x8x12x64x32 : Shape := ⟨5, ![256, 8, 12, 64, 32]⟩

abbrev nBuf : Space → Nat
  | .hbm => 140
  | .vmem => 0
  | .smem => 0
  | _ => 0

abbrev hbmTy0_0 (i : Nat) : BufTy := match i % 128 with
  | 0 => ⟨S256x256x768, .f32⟩
  | 1 => ⟨S256x256, .i1⟩
  | 2 => ⟨S256, .i32⟩
  | 3 => ⟨S768x768, .f32⟩
  | 4 => ⟨S768x768, .f32⟩
  | 5 => ⟨S768x768, .f32⟩
  | 6 => ⟨S768x768, .f32⟩
  | 7 => ⟨S768x768, .f32⟩
  | 8 => ⟨S256x256x768, .f32⟩
  | 9 => ⟨S256x256x12x64, .f32⟩
  | 10 => ⟨S768x768, .f32⟩
  | 11 => ⟨S256x256x768, .f32⟩
  | 12 => ⟨S256x256x12x64, .f32⟩
  | 13 => ⟨S768x768, .f32⟩
  | 14 => ⟨S256x256x768, .f32⟩
  | 15 => ⟨S256x256x12x64, .f32⟩
  | 16 => ⟨S256, .i32⟩
  | 17 => ⟨S256, .i32⟩
  | 18 => ⟨S256, .i32⟩
  | 19 => ⟨S256, .i32⟩
  | 20 => ⟨S256, .i32⟩
  | 21 => ⟨S256, .i32⟩
  | 22 => ⟨S_, .i32⟩
  | 23 => ⟨S256, .i32⟩
  | 24 => ⟨S256, .i1⟩
  | 25 => ⟨S_, .i32⟩
  | 26 => ⟨S256, .i32⟩
  | 27 => ⟨S256, .i32⟩
  | 28 => ⟨S256, .i32⟩
  | 29 => ⟨S256x1, .i32⟩
  | 30 => ⟨S1, .i32⟩
  | 31 => ⟨S_, .i32⟩
  | 32 => ⟨S256x1, .i32⟩
  | 33 => ⟨S256x1, .i1⟩
  | 34 => ⟨S1x1, .i32⟩
  | 35 => ⟨S256x1, .i32⟩
  | 36 => ⟨S256x1, .i1⟩
  | 37 => ⟨S256x1, .i1⟩
  | 38 => ⟨S_, .i1⟩
  | 39 => ⟨S256, .i1⟩
  | 40 => ⟨S256x256x12x64, .f32⟩
  | 41 => ⟨S256x256x12x64, .i1⟩
  | 42 => ⟨S_, .f32⟩
  | 43 => ⟨S256x256x12x64, .f32⟩
  | 44 => ⟨S256x256x12x64, .f32⟩
  | 45 => ⟨S_, .i32⟩
  | 46 => ⟨S256, .i32⟩
  | 47 => ⟨S256, .i1⟩
  | 48 => ⟨S_, .i32⟩
  | 49 => ⟨S256, .i32⟩
  | 50 => ⟨S256, .i32⟩
  | 51 => ⟨S256, .i32⟩
  | 52 => ⟨S256x1, .i32⟩
  | 53 => ⟨S1, .i32⟩
  | 54 => ⟨S_, .i32⟩
  | 55 => ⟨S256x1, .i32⟩
  | 56 => ⟨S256x1, .i1⟩
  | 57 => ⟨S1x1, .i32⟩
  | 58 => ⟨S256x1, .i32⟩
  | 59 => ⟨S256x1, .i1⟩
  | 60 => ⟨S256x1, .i1⟩
  | 61 => ⟨S_, .i1⟩
  | 62 => ⟨S256, .i1⟩
  | 63 => ⟨S256x256x12x64, .f32⟩
  | 64 => ⟨S256x256x12x64, .i1⟩
  | 65 => ⟨S_, .f32⟩
  | 66 => ⟨S256x256x12x64, .f32⟩
  | 67 => ⟨S256x256x12x64, .f32⟩
  | 68 => ⟨S_, .i32⟩
  | 69 => ⟨S256, .i32⟩
  | 70 => ⟨S256, .i1⟩
  | 71 => ⟨S_, .i32⟩
  | 72 => ⟨S256, .i32⟩
  | 73 => ⟨S256, .i32⟩
  | 74 => ⟨S256, .i32⟩
  | 75 => ⟨S256x1, .i32⟩
  | 76 => ⟨S1, .i32⟩
  | 77 => ⟨S_, .i32⟩
  | 78 => ⟨S256x1, .i32⟩
  | 79 => ⟨S256x1, .i1⟩
  | 80 => ⟨S1x1, .i32⟩
  | 81 => ⟨S256x1, .i32⟩
  | 82 => ⟨S256x1, .i1⟩
  | 83 => ⟨S256x1, .i1⟩
  | 84 => ⟨S_, .i1⟩
  | 85 => ⟨S256, .i1⟩
  | 86 => ⟨S256x256x12x64, .f32⟩
  | 87 => ⟨S256x256x12x64, .i1⟩
  | 88 => ⟨S_, .f32⟩
  | 89 => ⟨S256x256x12x64, .f32⟩
  | 90 => ⟨S256x256x12x64, .f32⟩
  | 91 => ⟨S256x8x32x12x64, .f32⟩
  | 92 => ⟨S256x8x32x12x64, .f32⟩
  | 93 => ⟨S256x8x32x12x64, .f32⟩
  | 94 => ⟨S256x8x12x32x32, .f32⟩
  | 95 => ⟨S_, .f32⟩
  | 96 => ⟨S256x8x12x32x32, .f32⟩
  | 97 => ⟨S256x8x12x32x32, .f32⟩
  | 98 => ⟨S_, .f32⟩
  | 99 => ⟨S256x8x12x32, .f32⟩
  | 100 => ⟨S_, .f32⟩
  | 101 => ⟨S256x8x12x32, .f32⟩
  | 102 => ⟨S256x8x12x32, .f32⟩
  | 103 => ⟨S256x8x12x32x1, .f32⟩
  | 104 => ⟨S256x8x12x32x32, .f32⟩
  | 105 => ⟨S256x8x12x32x32, .f32⟩
  | 106 => ⟨S256x8x12x32x32, .f32⟩
  | 107 => ⟨S_, .f32⟩
  | 108 => ⟨S256x8x12x32, .f32⟩
  | 109 => ⟨S256x8x12x32x1, .f32⟩
  | 110 => ⟨S256x8x12x32x32, .f32⟩
  | 111 => ⟨S256x8x12x32x32, .f32⟩
  | 112 => ⟨S256x8x12x64x32, .f32⟩
  | 113 => ⟨S256x8x32x12x64, .f32⟩
  | 114 => ⟨S256x256x768, .f32⟩
  | 115 => ⟨S_, .i32⟩
  | 116 => ⟨S256, .i32⟩
  | 117 => ⟨S256, .i1⟩
  | 118 => ⟨S_, .i32⟩
  | 119 => ⟨S256, .i32⟩
  | 120 => ⟨S256, .i32⟩
  | 121 => ⟨S256, .i32⟩
  | 122 => ⟨S256x1, .i32⟩
  | 123 => ⟨S1, .i32⟩
  | 124 => ⟨S_, .i32⟩
  | 125 => ⟨S256x1, .i32⟩
  | 126 => ⟨S256x1, .i1⟩
  | 127 => ⟨S1x1, .i32⟩
  | _ => ⟨S256x256x768, .f32⟩

abbrev hbmTy0_1 (i : Nat) : BufTy := match i % 128 with
  | 0 => ⟨S256x1, .i32⟩
  | 1 => ⟨S256x1, .i1⟩
  | 2 => ⟨S256x1, .i1⟩
  | 3 => ⟨S_, .i1⟩
  | 4 => ⟨S256, .i1⟩
  | 5 => ⟨S256x256x768, .f32⟩
  | 6 => ⟨S256x256x768, .i1⟩
  | 7 => ⟨S_, .f32⟩
  | 8 => ⟨S256x256x768, .f32⟩
  | 9 => ⟨S256x256x768, .f32⟩
  | 10 => ⟨S768x768, .f32⟩
  | 11 => ⟨S256x256x768, .f32⟩
  | _ => ⟨S256x256x768, .f32⟩

abbrev hbmTy (i : Nat) : BufTy := match i / 128 with
  | 0 => hbmTy0_0 i
  | 1 => hbmTy0_1 i
  | _ => ⟨S256x256x768, .f32⟩

abbrev bufTy : (tb : Table) → Fin (tcTables nBuf tb) → BufTy
  | .hbm, ⟨i, _⟩ => hbmTy i
  | _, _ => ⟨S256x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1_0 : Ref sig .tc := ⟨.hbm, 17, rfl⟩
abbrev main_v9 : Ref sig .tc := ⟨.hbm, 18, rfl⟩
abbrev main_call1_v0 : Ref sig .tc := ⟨.hbm, 19, rfl⟩
abbrev main_call1_v1_0 : Ref sig .tc := ⟨.hbm, 20, rfl⟩
abbrev main_v10 : Ref sig .tc := ⟨.hbm, 21, rfl⟩
abbrev main_call2_c : Ref sig .tc := ⟨.hbm, 22, rfl⟩
abbrev main_call2_v0 : Ref sig .tc := ⟨.hbm, 23, rfl⟩
abbrev main_call2_v1 : Ref sig .tc := ⟨.hbm, 24, rfl⟩
abbrev main_call2_c_0 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_c_1 : Ref sig .tc := ⟨.hbm, 30, rfl⟩
abbrev main_call2_c_2 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_c_3 : Ref sig .tc := ⟨.hbm, 38, rfl⟩
abbrev main_call2_v12 : Ref sig .tc := ⟨.hbm, 39, rfl⟩
abbrev main_call2_v13 : Ref sig .tc := ⟨.hbm, 40, rfl⟩
abbrev main_call2_v14 : Ref sig .tc := ⟨.hbm, 41, rfl⟩
abbrev main_call2_cst : Ref sig .tc := ⟨.hbm, 42, rfl⟩
abbrev main_call2_v15 : Ref sig .tc := ⟨.hbm, 43, rfl⟩
abbrev main_v11 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_c_0 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_c_1 : Ref sig .tc := ⟨.hbm, 53, rfl⟩
abbrev main_call3_c_2 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_3 : Ref sig .tc := ⟨.hbm, 61, rfl⟩
abbrev main_call3_v12 : Ref sig .tc := ⟨.hbm, 62, rfl⟩
abbrev main_call3_v13 : Ref sig .tc := ⟨.hbm, 63, rfl⟩
abbrev main_call3_v14 : Ref sig .tc := ⟨.hbm, 64, rfl⟩
abbrev main_call3_cst : Ref sig .tc := ⟨.hbm, 65, rfl⟩
abbrev main_call3_v15 : Ref sig .tc := ⟨.hbm, 66, rfl⟩
abbrev main_v12 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_c_1 : Ref sig .tc := ⟨.hbm, 76, rfl⟩
abbrev main_call4_c_2 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_v11 : Ref sig .tc := ⟨.hbm, 83, rfl⟩
abbrev main_call4_c_3 : Ref sig .tc := ⟨.hbm, 84, rfl⟩
abbrev main_call4_v12 : Ref sig .tc := ⟨.hbm, 85, rfl⟩
abbrev main_call4_v13 : Ref sig .tc := ⟨.hbm, 86, rfl⟩
abbrev main_call4_v14 : Ref sig .tc := ⟨.hbm, 87, rfl⟩
abbrev main_call4_cst : Ref sig .tc := ⟨.hbm, 88, rfl⟩
abbrev main_call4_v15 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_cst : Ref sig .tc := ⟨.hbm, 95, rfl⟩
abbrev main_v18 : Ref sig .tc := ⟨.hbm, 96, rfl⟩
abbrev main_v19 : Ref sig .tc := ⟨.hbm, 97, rfl⟩
abbrev main_cst_0 : Ref sig .tc := ⟨.hbm, 98, rfl⟩
abbrev main_v20 : Ref sig .tc := ⟨.hbm, 99, rfl⟩
abbrev main_cst_1 : Ref sig .tc := ⟨.hbm, 100, rfl⟩
abbrev main_v21 : Ref sig .tc := ⟨.hbm, 101, rfl⟩
abbrev main_v22 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_cst_2 : Ref sig .tc := ⟨.hbm, 107, rfl⟩
abbrev main_v27 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_call5_c : Ref sig .tc := ⟨.hbm, 115, rfl⟩
abbrev main_call5_v0 : Ref sig .tc := ⟨.hbm, 116, rfl⟩
abbrev main_call5_v1 : Ref sig .tc := ⟨.hbm, 117, rfl⟩
abbrev main_call5_c_0 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_v5 : Ref sig .tc := ⟨.hbm, 122, rfl⟩
abbrev main_call5_c_1 : Ref sig .tc := ⟨.hbm, 123, rfl⟩
abbrev main_call5_c_2 : Ref sig .tc := ⟨.hbm, 124, rfl⟩
abbrev main_call5_v6 : Ref sig .tc := ⟨.hbm, 125, rfl⟩
abbrev main_call5_v7 : Ref sig .tc := ⟨.hbm, 126, rfl⟩
abbrev main_call5_v8 : Ref sig .tc := ⟨.hbm, 127, rfl⟩
abbrev main_call5_v9 : Ref sig .tc := ⟨.hbm, 128, rfl⟩
abbrev main_call5_v10 : Ref sig .tc := ⟨.hbm, 129, rfl⟩
abbrev main_call5_v11 : Ref sig .tc := ⟨.hbm, 130, rfl⟩
abbrev main_call5_c_3 : Ref sig .tc := ⟨.hbm, 131, rfl⟩
abbrev main_call5_v12 : Ref sig .tc := ⟨.hbm, 132, rfl⟩
abbrev main_call5_v13 : Ref sig .tc := ⟨.hbm, 133, rfl⟩
abbrev main_call5_v14 : Ref sig .tc := ⟨.hbm, 134, rfl⟩
abbrev main_call5_cst : Ref sig .tc := ⟨.hbm, 135, rfl⟩
abbrev main_call5_v15 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩

abbrev nD : Nat := 1
abbrev τ : Topo := Topo.v7x

variable {F : FTy → Type} [FloatOps F]
-- ==== Proof.Take.lean ====
/- The reference's `argsort` and `take` where the group ids are already sorted: the sort is stable, so it moves nothing,
   its positions are 0, 1, …, 255, and taking rows at those positions gives the rows back. -/
module

public import proofs.«01_k».proof.Proof.Gen.ReferenceIdeal.Read
public import Idealize.ShloMosaic.Lib.SortFacts
public import Idealize.ShloMosaic.Lib.ValueIdx
public import Idealize.ShloMosaic.Lib.Pipeline.Value
public import Idealize.ShloMosaic.Lib.StableHlo.Predicate

@[expose] public section

noncomputable section

namespace Cert.ReferenceIdeal.Take

open Cert.ReferenceIdeal Cert.ReferenceIdeal.Gen Cert.ReferenceIdeal.Read Idealize.ShloMosaic Idealize.ShloMosaic.TcCoe
open Idealize.ShloMosaic.ValueIdx

/-! ## A stable sort of a sorted list -/

theorem insertBefore_head {ι : Type} (R : ι → ι → Bool) (a : ι) (l : List ι) (h : ∀ b ∈ l, R b a = false) :
    insertBefore R a l = a :: l := by
  cases l with
  | nil => rfl
  | cons b l => unfold insertBefore; rw [h b List.mem_cons_self]; rfl

theorem stableSort_sorted {ι : Type} (R : ι → ι → Bool) (l : List ι) (h : l.Pairwise fun a b => R b a = false) :
    stableSort R l = l := by
  induction l with
  | nil => rfl
  | cons a l ih =>
    unfold stableSort
    rw [ih (List.pairwise_cons.1 h).2]
    exact insertBefore_head R a l (List.pairwise_cons.1 h).1

theorem sortedFrom_sorted {n : Nat} (R : Fin n → Fin n → Bool) (h : ∀ a b, a < b → R b a = false) (k : Fin n) :
    sortedFrom R k = k := by
  have e : sortPositions n R = List.finRange n :=
    stableSort_sorted R _ ((List.pairwise_lt_finRange n).imp fun {a b} hab => h a b hab)
  unfold sortedFrom
  rw [List.get_of_eq e]
  simp

/-! ## The positions -/

/-- The positions 0, 1, …, 255. -/
def positions : IVec S256 32 := fun i => BitVec.ofNat 32 (i 0).val

/-- Sorting a sorted array leaves the positions in order. -/
theorem argsort_sorted (x : IVec S256 32) (h : ∀ a b : Fin 256, a < b → (x (ix1 b)).slt (x (ix1 a)) = false) :
    (Host.sort2 S256 0 comparator_i32_i32_d0 x (val_main_call0_v0 (F := Ideal))).2 = positions := by
  funext j
  unfold Host.sort2
  rw [dif_pos (by decide)]
  have hs := sortedFrom_sorted (n := 256) (fun k k' => comparator_i32_i32_d0 (x (j.along 0 k), val_main_call0_v0 (F := Ideal) (j.along 0 k))
    (x (j.along 0 k'), val_main_call0_v0 (F := Ideal) (j.along 0 k')) == 1#1) (fun a b hab => by
      have ea : ∀ k : Fin 256, (j.along 0 k : S256.Idx) = ix1 k := fun k => by
        funext c; match c with | ⟨0, _⟩ => exact Function.update_self _ _ _
      have := h a b hab
      show (BitVec.ofBool ((x (j.along 0 b)).slt (x (j.along 0 a))) == 1#1) = false
      rw [ea, ea, this]; rfl) (j 0)
  show BitVec.ofNat 32 ((j.along 0 (sortedFrom (n := 256) _ (j 0)) : S256.Idx) 0).val = BitVec.ofNat 32 (j 0).val
  rw [show ∀ k : Fin 256, ((j.along 0 k : S256.Idx) 0).val = k.val from fun k => congrArg Fin.val (Function.update_self _ _ _)]
  exact congrArg (fun k : Fin 256 => BitVec.ofNat 32 k.val) hs

theorem positions_sorted (a b : Fin 256) (h : a < b) : (positions (ix1 b)).slt (positions (ix1 a)) = false := by
  have h1 := StableHlo.Predicate.toInt_ofNat_small a.val (by omega)
  have h2 := StableHlo.Predicate.toInt_ofNat_small b.val (by omega)
  have : a.val < b.val := h
  show (BitVec.ofNat 32 b.val).slt (BitVec.ofNat 32 a.val) = false
  simp only [BitVec.slt, h1, h2, decide_eq_false_iff_not]
  omega

variable (x2 : IVec S256 32) (h2 : ∀ a b : Fin 256, a < b → (x2 (ix1 b)).slt (x2 (ix1 a)) = false)

include h2 in
theorem v9_eq : val_main_v9 (F := Ideal) x2 = positions := argsort_sorted x2 h2

include h2 in
theorem v10_eq : val_main_v10 (F := Ideal) x2 = positions := by
  unfold val_main_v10
  rw [v9_eq x2 h2]
  exact argsort_sorted positions positions_sorted

/-! ## Taking rows at the positions -/

/-- A take's start indices from its positions. -/
def starts (s : IVec S256 32) : IVec S256x1 32 :=
  broadcastInDim S256x1 ![0] bcast_S256_S256x1_0 (select (cmpi .slt s (val_main_call2_v0 (F := Ideal))) (addi s (val_main_call2_v2 (F := Ideal))) s)

/-- A take's test that its start indices are in range. -/
def inRange (s : IVec S256 32) : IVec S256 1 :=
  Host.reduce IntOp.andi (andi (cmpi .sge (starts s) (val_main_call2_v6 (F := Ideal))) (cmpi .sle (starts s) (val_main_call2_v9 (F := Ideal))))
    (val_main_call2_c_3 (F := Ideal)) reducesTo_S256x1_S256_d1 h_S_

theorem starts_apply (i : S256x1.Idx) : starts positions i = BitVec.ofNat 32 (i 0).val := by
  refine (broadcastInDim_apply _ bcast_S256_S256x1_0 _ i (idx_main_call2_v5 i) (fun a => match a with
    | ⟨0, _⟩ => by show (i 0).val = if (256 : Nat) = 1 then 0 else (i 0).val; rw [if_neg (by decide)])).trans ?_
  rw [select_apply]
  have hc : cmpi .slt positions (val_main_call2_v0 (F := Ideal)) (idx_main_call2_v5 i) = 0#1 := by
    show IntOp.cmpi .slt (positions (idx_main_call2_v5 i)) (val_main_call2_v0 (F := Ideal) (idx_main_call2_v5 i)) = 0#1
    rw [val_main_call2_v0_apply, val_main_call2_c_apply]
    exact (by decide +kernel : ∀ n : Fin 256, IntOp.cmpi .slt (BitVec.ofNat 32 n.val) 0#32 = 0#1) (i 0)
  rw [hc]
  rfl

theorem foldl_andi {α : Type} (l : List α) (f : α → BitVec 1) (h : ∀ a ∈ l, f a = 1#1) : l.foldl (fun r a => IntOp.andi r (f a)) 1#1 = 1#1 := by
  induction l with
  | nil => rfl
  | cons a l ih =>
    rw [List.foldl_cons, h a List.mem_cons_self]
    exact ih fun b hb => h b (List.mem_cons_of_mem _ hb)

theorem inRange_apply (i : S256.Idx) : inRange positions i = 1#1 := by
  refine foldl_andi _ _ fun n _ => ?_
  generalize S256x1.rowMajor.symm n = k
  show IntOp.andi (IntOp.cmpi .sge (starts positions k) (val_main_call2_v6 (F := Ideal) k)) (IntOp.cmpi .sle (starts positions k) (val_main_call2_v9 (F := Ideal) k)) = 1#1
  rw [starts_apply, val_main_call2_v6_apply, val_main_call2_c_2_apply, val_main_call2_v9_apply, val_main_call2_v8_apply, val_main_call2_c_1_apply]
  exact (by decide +kernel : ∀ n : Fin 256, IntOp.andi (IntOp.cmpi .sge (BitVec.ofNat 32 n.val) 0#32) (IntOp.cmpi .sle (BitVec.ofNat 32 n.val) 255#32) = 1#1) (k 0)

theorem min_word (n : Fin 256) : min (BitVec.ofNat 32 n.val).toInt.toNat (256 - 1) = n.val := by
  rw [StableHlo.Predicate.toInt_ofNat_small _ (by omega)]
  omega

theorem gather4 (x : S256x256x12x64.Idx → EReal) :
    Host.gather gather_S256x256x12x64_S256x1_S256x256x12x64_023_1_n_n_1_1_25611264 x (starts positions) = x := by
  funext j
  unfold Host.gather
  refine congrArg x (funext fun a => Fin.ext ?_)
  show GatherDims.start _ j _ a + GatherDims.batchCoord _ j a + GatherDims.offCoord _ j a = (j a).val
  rw [GatherDims.batchCoord_eq_zero _ _ _ List.not_mem_nil]
  match a with
  | ⟨0, _⟩ =>
    show GatherDims.start gather_S256x256x12x64_S256x1_S256x256x12x64_023_1_n_n_1_1_25611264 j _ (0 : Fin 4) + 0 + GatherDims.offCoord gather_S256x256x12x64_S256x1_S256x256x12x64_023_1_n_n_1_1_25611264 j (0 : Fin 4) = (j 0).val
    unfold GatherDims.start GatherDims.offCoord
    rw [dif_neg (show ¬(0 : Fin 4) ∈ GatherDims.startIndexMap gather_S256x256x12x64_S256x1_S256x256x12x64_023_1_n_n_1_1_25611264 by decide), dif_pos (show (0 : Fin 4) ∈ GatherDims.sKept gather_S256x256x12x64_S256x1_S256x256x12x64_023_1_n_n_1_1_25611264 by decide), Nat.zero_add]
    rfl
  | ⟨1, _⟩ =>
    show GatherDims.start gather_S256x256x12x64_S256x1_S256x256x12x64_023_1_n_n_1_1_25611264 j _ (1 : Fin 4) + 0 + GatherDims.offCoord gather_S256x256x12x64_S256x1_S256x256x12x64_023_1_n_n_1_1_25611264 j (1 : Fin 4) = (j 1).val
    unfold GatherDims.start GatherDims.offCoord
    rw [dif_pos (show (1 : Fin 4) ∈ GatherDims.startIndexMap gather_S256x256x12x64_S256x1_S256x256x12x64_023_1_n_n_1_1_25611264 by decide), dif_neg (show ¬(1 : Fin 4) ∈ GatherDims.sKept gather_S256x256x12x64_S256x1_S256x256x12x64_023_1_n_n_1_1_25611264 by decide), starts_apply]
    exact min_word (j 1)
  | ⟨2, _⟩ =>
    show GatherDims.start gather_S256x256x12x64_S256x1_S256x256x12x64_023_1_n_n_1_1_25611264 j _ (2 : Fin 4) + 0 + GatherDims.offCoord gather_S256x256x12x64_S256x1_S256x256x12x64_023_1_n_n_1_1_25611264 j (2 : Fin 4) = (j 2).val
    unfold GatherDims.start GatherDims.offCoord
    rw [dif_neg (show ¬(2 : Fin 4) ∈ GatherDims.startIndexMap gather_S256x256x12x64_S256x1_S256x256x12x64_023_1_n_n_1_1_25611264 by decide), dif_pos (show (2 : Fin 4) ∈ GatherDims.sKept gather_S256x256x12x64_S256x1_S256x256x12x64_023_1_n_n_1_1_25611264 by decide), Nat.zero_add]
    rfl
  | ⟨3, _⟩ =>
    show GatherDims.start gather_S256x256x12x64_S256x1_S256x256x12x64_023_1_n_n_1_1_25611264 j _ (3 : Fin 4) + 0 + GatherDims.offCoord gather_S256x256x12x64_S256x1_S256x256x12x64_023_1_n_n_1_1_25611264 j (3 : Fin 4) = (j 3).val
    unfold GatherDims.start GatherDims.offCoord
    rw [dif_neg (show ¬(3 : Fin 4) ∈ GatherDims.startIndexMap gather_S256x256x12x64_S256x1_S256x256x12x64_023_1_n_n_1_1_25611264 by decide), dif_pos (show (3 : Fin 4) ∈ GatherDims.sKept gather_S256x256x12x64_S256x1_S256x256x12x64_023_1_n_n_1_1_25611264 by decide), Nat.zero_add]
    rfl

theorem gather3 (x : S256x256x768.Idx → EReal) :
    Host.gather gather_S256x256x768_S256x1_S256x256x768_02_1_n_n_1_1_2561768 x (starts positions) = x := by
  funext j
  unfold Host.gather
  refine congrArg x (funext fun a => Fin.ext ?_)
  show GatherDims.start _ j _ a + GatherDims.batchCoord _ j a + GatherDims.offCoord _ j a = (j a).val
  rw [GatherDims.batchCoord_eq_zero _ _ _ List.not_mem_nil]
  match a with
  | ⟨0, _⟩ =>
    show GatherDims.start gather_S256x256x768_S256x1_S256x256x768_02_1_n_n_1_1_2561768 j _ (0 : Fin 3) + 0 + GatherDims.offCoord gather_S256x256x768_S256x1_S256x256x768_02_1_n_n_1_1_2561768 j (0 : Fin 3) = (j 0).val
    unfold GatherDims.start GatherDims.offCoord
    rw [dif_neg (show ¬(0 : Fin 3) ∈ GatherDims.startIndexMap gather_S256x256x768_S256x1_S256x256x768_02_1_n_n_1_1_2561768 by decide), dif_pos (show (0 : Fin 3) ∈ GatherDims.sKept gather_S256x256x768_S256x1_S256x256x768_02_1_n_n_1_1_2561768 by decide), Nat.zero_add]
    rfl
  | ⟨1, _⟩ =>
    show GatherDims.start gather_S256x256x768_S256x1_S256x256x768_02_1_n_n_1_1_2561768 j _ (1 : Fin 3) + 0 + GatherDims.offCoord gather_S256x256x768_S256x1_S256x256x768_02_1_n_n_1_1_2561768 j (1 : Fin 3) = (j 1).val
    unfold GatherDims.start GatherDims.offCoord
    rw [dif_pos (show (1 : Fin 3) ∈ GatherDims.startIndexMap gather_S256x256x768_S256x1_S256x256x768_02_1_n_n_1_1_2561768 by decide), dif_neg (show ¬(1 : Fin 3) ∈ GatherDims.sKept gather_S256x256x768_S256x1_S256x256x768_02_1_n_n_1_1_2561768 by decide), starts_apply]
    exact min_word (j 1)
  | ⟨2, _⟩ =>
    show GatherDims.start gather_S256x256x768_S256x1_S256x256x768_02_1_n_n_1_1_2561768 j _ (2 : Fin 3) + 0 + GatherDims.offCoord gather_S256x256x768_S256x1_S256x256x768_02_1_n_n_1_1_2561768 j (2 : Fin 3) = (j 2).val
    unfold GatherDims.start GatherDims.offCoord
    rw [dif_neg (show ¬(2 : Fin 3) ∈ GatherDims.startIndexMap gather_S256x256x768_S256x1_S256x256x768_02_1_n_n_1_1_2561768 by decide), dif_pos (show (2 : Fin 3) ∈ GatherDims.sKept gather_S256x256x768_S256x1_S256x256x768_02_1_n_n_1_1_2561768 by decide), Nat.zero_add]
    rfl

variable (x0 : S256x256x768.Idx → EReal) (x3 x4 x5 : S768x768.Idx → EReal)

include h2 in
theorem v11_eq : val_main_v11 (F := Ideal) x0 x2 x3 = val_main_v2 (F := Ideal) x0 x3 := by
  funext i
  rw [val_main_v11_apply, val_main_call2_v14_apply]
  rw [show val_main_call2_v12 (F := Ideal) x2 = inRange (val_main_v9 (F := Ideal) x2) from rfl, v9_eq x2 h2, inRange_apply]
  unfold val_main_call2_v13
  rw [show val_main_call2_v5 (F := Ideal) x2 = starts (val_main_v9 (F := Ideal) x2) from rfl, v9_eq x2 h2, gather4]
  rfl

include h2 in
theorem v12_eq : val_main_v12 (F := Ideal) x0 x2 x4 = val_main_v5 (F := Ideal) x0 x4 := v11_eq x2 h2 x0 x4

include h2 in
theorem v13_eq : val_main_v13 (F := Ideal) x0 x2 x5 = val_main_v8 (F := Ideal) x0 x5 := v11_eq x2 h2 x0 x5

include h2 in
theorem v34_eq : val_main_v34 (F := Ideal) x0 x2 x3 x4 x5 = val_main_v33 (F := Ideal) x0 x2 x3 x4 x5 := by
  funext i
  rw [val_main_v34_apply, val_main_call5_v14_apply]
  rw [show val_main_call5_v12 (F := Ideal) x2 = inRange (val_main_v10 (F := Ideal) x2) from rfl, v10_eq x2 h2, inRange_apply]
  unfold val_main_call5_v13
  rw [show val_main_call5_v5 (F := Ideal) x2 = starts (val_main_v10 (F := Ideal) x2) from rfl, v10_eq x2 h2, gather3]
  rfl

end Cert.ReferenceIdeal.Take

end
-- ==== Proof.Softmax.lean ====
/- Real arithmetic among the extended reals for one attention row: finite scores give the same weights with or without the
   row's maximum taken off, and dividing once at the end is dividing every weight. -/
module

public import Idealize.ShloMosaic.Lib.IdealHost
public import Idealize.ShloMosaic.Lib.ValueIdx

@[expose] public section

noncomputable section

open scoped BigOperators

namespace Attention

open Idealize.ShloMosaic

/-- Column `64 h + d` of the model's features: lane `d` of head `h`. -/
def feat (h : Fin 12) (d : Fin 64) : Fin 768 := ⟨64 * h.val + d.val, by omega⟩

/-- Row `32 g + i` of the sequence: place `i` of group `g`. -/
def seat (g : Fin 8) (i : Fin 32) : Fin 256 := ⟨32 * g.val + i.val, by omega⟩

/-- A feature index is a head and a lane. -/
theorem feat_split (f : Fin 768) : f = feat ⟨f.val / 64, by omega⟩ ⟨f.val % 64, by omega⟩ :=
  Fin.ext (Nat.div_add_mod f.val 64).symm

/-- A row is a group and a place. -/
theorem seat_split (b : Fin 256) : b = seat ⟨b.val / 32, by omega⟩ ⟨b.val % 32, by omega⟩ :=
  Fin.ext (Nat.div_add_mod b.val 32).symm

/-- A finite sum of reals is the same taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplying by a non-negative finite number goes through a sum of extended reals. -/
theorem sum_mul_nonneg {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top _), ih]

/-- A quotient of reals by a non-zero real. -/
theorem div_coe (x y : ℝ) (hy : y ≠ 0) : Ideal.div (x : EReal) (y : EReal) = ((x * y⁻¹ : ℝ) : EReal) := by
  unfold Ideal.div
  rw [if_neg (by simpa using hy), EReal.coe_mul, EReal.coe_inv]

/-- The softmax of finite scores, applied to values `v`: weights from scores less a finite `m`, each divided by their
    sum, against unshifted weights with one division at the end. -/
theorem softmax_eq (σ : Fin 32 → ℝ) (v : Fin 32 → EReal) (m : ℝ) :
    (∑ j, Ideal.exp (σ j : EReal) * v j) * Ideal.div 1 (∑ j, Ideal.exp (σ j : EReal) * 1)
      = ∑ j, v j * Ideal.div (Ideal.exp ((σ j : EReal) - (m : EReal))) (∑ j', Ideal.exp ((σ j' : EReal) - (m : EReal))) := by
  have hS : 0 < ∑ j, Real.exp (σ j) := Finset.sum_pos (fun j _ => Real.exp_pos _) ⟨0, Finset.mem_univ _⟩
  have hT : ∑ j, Real.exp (σ j - m) = (∑ j, Real.exp (σ j)) * Real.exp (-m) := by
    rw [Finset.sum_mul]
    exact Finset.sum_congr rfl fun j _ => by rw [← Real.exp_add, sub_eq_add_neg]
  have e1 : ∀ r : ℝ, Ideal.exp (r : EReal) = ((Real.exp r : ℝ) : EReal) := fun r => rfl
  simp only [← EReal.coe_sub, e1, mul_one, ← coe_sum]
  rw [← EReal.coe_one, div_coe _ _ hS.ne', sum_mul_nonneg _ _ _ (by positivity)]
  refine Finset.sum_congr rfl fun j _ => ?_
  rw [div_coe _ _ (by rw [hT]; positivity), hT, mul_comm _ (v j), mul_assoc, ← EReal.coe_mul]
  congr 2
  rw [sub_eq_add_neg, Real.exp_add]
  have := Real.exp_pos (-m)
  field_simp

/-- The maximum, from −∞, of a row of finite scores is finite. -/
theorem fold_max_coe (σ : Fin 32 → ℝ) : ∃ m : ℝ, (Finset.univ : Finset (Fin 32)).fold max (⊥ : EReal) (fun j => (σ j : EReal)) = (m : EReal) := by
  have h : ∀ s : Finset (Fin 32), s.fold max (⊥ : EReal) (fun j => (σ j : EReal)) = ⊥ ∧ s = ∅ ∨
      ∃ m : ℝ, s.fold max (⊥ : EReal) (fun j => (σ j : EReal)) = (m : EReal) := by
    intro s
    induction s using Finset.induction_on with
    | empty => exact .inl ⟨rfl, rfl⟩
    | insert a s ha ih =>
      right
      rw [Finset.fold_insert ha]
      rcases ih with ⟨e, _⟩ | ⟨m, e⟩
      · exact ⟨σ a, by rw [e]; simp⟩
      · exact ⟨max (σ a) m, by rw [e]; exact (EReal.coe_strictMono.monotone.map_max).symm⟩
  rcases h Finset.univ with ⟨_, e⟩ | e
  · exact absurd e (Finset.univ_nonempty).ne_empty
  · exact e

/-- A sum over the 256 rows whose terms vanish off group `g` is the sum over that group's 32 places. -/
theorem sum_group (g : Fin 8) (f : Fin 256 → EReal) (hf : ∀ b : Fin 256, b.val / 32 ≠ g.val → f b = 0) :
    ∑ b, f b = ∑ j, f (seat g j) := by
  symm
  refine Finset.sum_of_injOn (seat g) ?_ (by simp) ?_ (by simp)
  · intro a _ b _ h
    have := congrArg Fin.val h
    simp only [seat] at this
    exact Fin.ext (by omega)
  · intro b _ hb
    refine hf b fun e => hb ⟨⟨b.val % 32, by omega⟩, by simp, Fin.ext ?_⟩
    show 32 * g.val + b.val % 32 = b.val
    omega

/-- Scaling the left factor's weights by `c` before the two projections is scaling the score by `c`, the numbers finite. -/
theorem score_eq (X Y : Fin 768 → ℝ) (A B : Fin 64 → Fin 768 → ℝ) (c : ℝ) :
    ∃ σ : ℝ,
      (∑ k, (∑ d, (X d : EReal) * ((A k d : EReal) * (c : EReal))) * (∑ d, (Y d : EReal) * (B k d : EReal))) = (σ : EReal)
      ∧ (∑ k, (∑ d, (X d : EReal) * (A k d : EReal)) * (∑ d, (Y d : EReal) * (B k d : EReal))) * (c : EReal) = (σ : EReal) := by
  refine ⟨(∑ k, (∑ d, X d * A k d) * (∑ d, Y d * B k d)) * c, ?_, ?_⟩
  · simp only [← EReal.coe_mul, ← coe_sum]
    congr 1
    rw [Finset.sum_mul]
    refine Finset.sum_congr rfl fun k _ => ?_
    have : ∑ d, X d * (A k d * c) = (∑ d, X d * A k d) * c := by
      rw [Finset.sum_mul]; exact Finset.sum_congr rfl fun d _ => by ring
    rw [this]; ring
  · simp only [← EReal.coe_mul, ← coe_sum]

end Attention
-- ==== Proof.RefValue.lean ====
/- The reference's result read at one index, the group ids sorted: per head and group a softmax over the group's 32 rows. -/
module

public import proofs.«01_k».proof.Proof.Take
public import proofs.«01_k».proof.Proof.Softmax

@[expose] public section

noncomputable section

open scoped BigOperators

namespace Cert.ReferenceIdeal.RefValue

open Cert.ReferenceIdeal Cert.ReferenceIdeal.Gen Cert.ReferenceIdeal.Read Cert.ReferenceIdeal.Take Idealize.ShloMosaic Idealize.ShloMosaic.TcCoe
open Idealize.ShloMosaic.ValueIdx Attention

/-- One entry of `x @ w.T`. -/
def proj (x : S256x256x768.Idx → EReal) (w : S768x768.Idx → EReal) (t b : Fin 256) (f : Fin 768) : EReal :=
  ∑ d : Fin 768, x (ix3 t b d) * w (ix2 f d)

/-- The score of rows `i` and `j` of one group at one head. -/
def score (x : S256x256x768.Idx → EReal) (wq wk : S768x768.Idx → EReal) (t : Fin 256) (g : Fin 8) (h : Fin 12) (i j : Fin 32) : EReal :=
  (∑ k : Fin 64, proj x wq t (seat g i) (feat h k) * proj x wk t (seat g j) (feat h k)) * Ideal.ofBits .f32 0x3E000000#32

/-- The largest score of a row. -/
def top (x : S256x256x768.Idx → EReal) (wq wk : S768x768.Idx → EReal) (t : Fin 256) (g : Fin 8) (h : Fin 12) (i : Fin 32) : EReal :=
  (Finset.univ : Finset (Fin 32)).fold max (⊥ : EReal) fun j => score x wq wk t g h i j

/-- One entry of the attention's output before the last projection. -/
def context (x : S256x256x768.Idx → EReal) (wq wk wv : S768x768.Idx → EReal) (t : Fin 256) (g : Fin 8) (i : Fin 32) (h : Fin 12) (d : Fin 64) : EReal :=
  ∑ j : Fin 32, proj x wv t (seat g j) (feat h d) *
    Ideal.div (Ideal.exp (score x wq wk t g h i j - top x wq wk t g h i)) (∑ j' : Fin 32, Ideal.exp (score x wq wk t g h i j' - top x wq wk t g h i))

/-- The word of −∞ is the bottom. -/
theorem negInf : Ideal.ofBits .f32 0xFF800000#32 = (⊥ : EReal) := by simp [Ideal.ofBits, Ideal.ieee]

theorem v2_at (x : S256x256x768.Idx → EReal) (w : S768x768.Idx → EReal) (t b : Fin 256) (h : Fin 12) (k : Fin 64) :
    val_main_v2 (F := Ideal) x w (ix4 t b h k) = proj x w t b (feat h k) := by
  rw [val_main_v2_apply, val_main_v1_apply]
  refine Finset.sum_congr rfl fun d _ => ?_
  rw [val_main_v0_apply]
  refine congrArg₂ (· * ·) (congrArg x ?_) (congrArg w ?_)
  · funext a
    match a with
    | ⟨0, _⟩ => exact Fin.ext (show (((t.val * 256 + b.val) * 12 + h.val) * 64 + k.val) / 196608 = t.val by omega)
    | ⟨1, _⟩ => exact Fin.ext (show (((t.val * 256 + b.val) * 12 + h.val) * 64 + k.val) / 768 % 256 = b.val by omega)
    | ⟨2, _⟩ => rfl
  · funext a
    match a with
    | ⟨0, _⟩ => exact Fin.ext (show (((t.val * 256 + b.val) * 12 + h.val) * 64 + k.val) % 768 = 64 * h.val + k.val by omega)
    | ⟨1, _⟩ => rfl

/-- The split of a row into its group and place. -/
theorem idx14 (t : Fin 256) (g : Fin 8) (i : Fin 32) (h : Fin 12) (k : Fin 64) :
    idx_main_v14 (ix5 t g i h k) = ix4 t (seat g i) h k := by
  funext a
  match a with
  | ⟨0, _⟩ => exact Fin.ext (show ((((t.val * 8 + g.val) * 32 + i.val) * 12 + h.val) * 64 + k.val) / 196608 = t.val by omega)
  | ⟨1, _⟩ => exact Fin.ext (show ((((t.val * 8 + g.val) * 32 + i.val) * 12 + h.val) * 64 + k.val) / 768 % 256 = 32 * g.val + i.val by omega)
  | ⟨2, _⟩ => exact Fin.ext (show ((((t.val * 8 + g.val) * 32 + i.val) * 12 + h.val) * 64 + k.val) / 64 % 12 = h.val by omega)
  | ⟨3, _⟩ => exact Fin.ext (show ((((t.val * 8 + g.val) * 32 + i.val) * 12 + h.val) * 64 + k.val) % 64 = k.val by omega)

variable (x0 : S256x256x768.Idx → EReal) (x2 : IVec S256 32) (x3 x4 x5 x6 : S768x768.Idx → EReal)
variable (h2 : ∀ a b : Fin 256, a < b → (x2 (ix1 b)).slt (x2 (ix1 a)) = false)

include h2

theorem v14_at (t : Fin 256) (g : Fin 8) (i : Fin 32) (h : Fin 12) (k : Fin 64) :
    val_main_v14 (F := Ideal) x0 x2 x3 (ix5 t g i h k) = proj x0 x3 t (seat g i) (feat h k) := by
  rw [val_main_v14_apply, v11_eq x2 h2, idx14, v2_at]

theorem v15_at (t : Fin 256) (g : Fin 8) (i : Fin 32) (h : Fin 12) (k : Fin 64) :
    val_main_v15 (F := Ideal) x0 x2 x4 (ix5 t g i h k) = proj x0 x4 t (seat g i) (feat h k) :=
  v14_at x0 x2 x4 h2 t g i h k

theorem v16_at (t : Fin 256) (g : Fin 8) (i : Fin 32) (h : Fin 12) (k : Fin 64) :
    val_main_v16 (F := Ideal) x0 x2 x5 (ix5 t g i h k) = proj x0 x5 t (seat g i) (feat h k) :=
  v14_at x0 x2 x5 h2 t g i h k

theorem v19_at (t : Fin 256) (g : Fin 8) (h : Fin 12) (i j : Fin 32) :
    val_main_v19 (F := Ideal) x0 x2 x3 x4 (ix5 t g h i j) = score x0 x3 x4 t g h i j := by
  rw [val_main_v19_apply, val_main_v17_apply, val_main_v18_apply, val_main_cst_apply]
  refine congrArg₂ (· * ·) (Finset.sum_congr rfl fun k _ => ?_) rfl
  have el : lidx_main_v17 (ix5 t g h i j) k = ix5 t g i h k := eq_ix5 _
  have er : ridx_main_v17 (ix5 t g h i j) k = ix5 t g j h k := eq_ix5 _
  rw [el, er, v14_at x0 x2 x3 h2, v15_at x0 x2 x4 h2]

theorem v20_at (t : Fin 256) (g : Fin 8) (h : Fin 12) (i : Fin 32) :
    val_main_v20 (F := Ideal) x0 x2 x3 x4 (ix4 t g h i) = top x0 x3 x4 t g h i := by
  have hr : S256x8x12x32x32.Reduces [(4 : Fin 5)] S256x8x12x32 := by decide
  unfold val_main_v20
  rw [Host.reduce_eq_fold_single FloatOps.maximumf _ _ reducesTo_S256x8x12x32x32_S256x8x12x32_d4 hr h_S_]
  have hf : (val_main_v19 (F := Ideal) x0 x2 x3 x4 ∘ hr.lift (ix4 t g h i)) = fun j : Fin 32 => score x0 x3 x4 t g h i j := by
    funext j
    have e : hr.lift (ix4 t g h i) j = ix5 t g h i j := funext fun c => Fin.ext (by fin_cases c <;> rfl)
    show val_main_v19 (F := Ideal) x0 x2 x3 x4 (hr.lift (ix4 t g h i) j) = _
    rw [e]
    exact v19_at x0 x2 x3 x4 h2 t g h i j
  have hb : val_main_cst_0 (F := Ideal) (Shape.Idx.first h_S_) = (⊥ : EReal) := negInf
  rw [hf, hb]
  rfl

theorem v26_at (t : Fin 256) (g : Fin 8) (h : Fin 12) (i j : Fin 32) :
    val_main_v26 (F := Ideal) x0 x2 x3 x4 (ix5 t g h i j)
      = Ideal.exp (score x0 x3 x4 t g h i j - top x0 x3 x4 t g h i) := by
  have e : idx_main_v23 (idx_main_v24 (ix5 t g h i j)) = ix4 t g h i := eq_ix4 _
  rw [val_main_v26_apply, val_main_v25_apply, val_main_v24_apply, val_main_v23_apply, e, val_main_v22_apply, val_main_v21_apply,
    val_main_cst_1_apply, v20_at x0 x2 x3 x4 h2, v19_at x0 x2 x3 x4 h2]
  show Ideal.exp (score x0 x3 x4 t g h i j - max (Ideal.ofBits .f32 0xFF800000#32) (top x0 x3 x4 t g h i)) = _
  rw [negInf, max_eq_right bot_le]

theorem v30_at (t : Fin 256) (g : Fin 8) (h : Fin 12) (i j : Fin 32) :
    val_main_v30 (F := Ideal) x0 x2 x3 x4 (ix5 t g h i j)
      = Ideal.div (Ideal.exp (score x0 x3 x4 t g h i j - top x0 x3 x4 t g h i))
          (∑ j' : Fin 32, Ideal.exp (score x0 x3 x4 t g h i j' - top x0 x3 x4 t g h i)) := by
  have e : idx_main_v28 (idx_main_v29 (ix5 t g h i j)) = ix4 t g h i := eq_ix4 _
  have e' : ∀ k : Fin 32, idx_main_v27 (ix4 t g h i) k = ix5 t g h i k := fun k => eq_ix5 _
  rw [val_main_v30_apply, val_main_v29_apply, val_main_v28_apply, e, val_main_v27_apply, v26_at x0 x2 x3 x4 h2, val_main_cst_2_apply]
  refine congrArg (Ideal.div _) ?_
  have hz : FloatOps.ofBits (F := Ideal) .f32 0x00000000#32 = (0 : EReal) := Ideal.ofBits_zero_f32
  rw [hz]
  refine (zero_add _).trans (Finset.sum_congr rfl fun k _ => ?_)
  rw [e', v26_at x0 x2 x3 x4 h2]

theorem v33_at (t : Fin 256) (g : Fin 8) (i : Fin 32) (h : Fin 12) (d : Fin 64) :
    val_main_v33 (F := Ideal) x0 x2 x3 x4 x5 (ix3 t (seat g i) (feat h d)) = context x0 x3 x4 x5 t g i h d := by
  have e : idx_main_v33 (ix3 t (seat g i) (feat h d)) = ix5 t g i h d := by
    funext a
    match a with
    | ⟨0, _⟩ => exact Fin.ext (show ((t.val * 256 + (32 * g.val + i.val)) * 768 + (64 * h.val + d.val)) / 196608 = t.val by omega)
    | ⟨1, _⟩ => exact Fin.ext (show ((t.val * 256 + (32 * g.val + i.val)) * 768 + (64 * h.val + d.val)) / 24576 % 8 = g.val by omega)
    | ⟨2, _⟩ => exact Fin.ext (show ((t.val * 256 + (32 * g.val + i.val)) * 768 + (64 * h.val + d.val)) / 768 % 32 = i.val by omega)
    | ⟨3, _⟩ => exact Fin.ext (show ((t.val * 256 + (32 * g.val + i.val)) * 768 + (64 * h.val + d.val)) / 64 % 12 = h.val by omega)
    | ⟨4, _⟩ => exact Fin.ext (show ((t.val * 256 + (32 * g.val + i.val)) * 768 + (64 * h.val + d.val)) % 64 = d.val by omega)
  have e' : idx_main_v32 (ix5 t g i h d) = ix5 t g h d i := eq_ix5 _
  rw [val_main_v33_apply, e, val_main_v32_apply, e', val_main_v31_apply]
  refine Finset.sum_congr rfl fun j _ => ?_
  have el : lidx_main_v31 (ix5 t g h d i) j = ix5 t g j h d := eq_ix5 _
  have er : ridx_main_v31 (ix5 t g h d i) j = ix5 t g h i j := eq_ix5 _
  rw [el, er, v16_at x0 x2 x5 h2, v30_at x0 x2 x3 x4 h2]

/-- The reference's result at one index. -/
theorem v36_at (t : Fin 256) (g : Fin 8) (i : Fin 32) (n : Fin 768) :
    val_main_v36 (F := Ideal) x0 x2 x3 x4 x5 x6 (ix3 t (seat g i) n)
      = ∑ f : Fin 768, context x0 x3 x4 x5 t g i ⟨f.val / 64, by omega⟩ ⟨f.val % 64, by omega⟩ * x6 (ix2 n f) := by
  rw [val_main_v36_apply]
  refine Finset.sum_congr rfl fun f _ => ?_
  have el : lidx_main_v36 (ix3 t (seat g i) n) f = ix3 t (seat g i) (feat ⟨f.val / 64, by omega⟩ ⟨f.val % 64, by omega⟩) := by
    rw [← feat_split f]; exact eq_ix3 _
  have er : idx_main_v35 (ridx_main_v36 (ix3 t (seat g i) n) f) = ix2 n f := eq_ix2 _
  rw [val_main_v35_apply, el, er, v34_eq x2 h2, v33_at x0 x2 x3 x4 x5 h2]

end Cert.ReferenceIdeal.RefValue
-- ==== Proof.Block.lean ====
/- What one launch of the kernel's body leaves in its output block, as one expression of the five input blocks: the
   48 pieces that the body stores into the head buffer are the 4 × 12 (series row, head) tiles of ONE array, so the
   buffer read back whole is that array, and the output is its product with the output weights. -/
module

public import proofs.«01_k».proof.Proof.Gen.KernelIdeal.Value
public import Idealize.ShloMosaic.Lib.MatmulPlain
public import Idealize.ShloMosaic.Lib.IdealHost
public import Idealize.ShloMosaic.Lib.ValueIdx
public import Idealize.ShloMosaic.Lib.Pipeline.Value
public import Idealize.ShloMosaic.PureOps.Ideal.Laws

@[expose] public section

noncomputable section

open scoped BigOperators

namespace Cert.KernelIdeal.Block

open Cert.KernelIdeal Cert.KernelIdeal.Gen Idealize.ShloMosaic Idealize.ShloMosaic.TcCoe Idealize.SL.Sem
open Idealize.ShloMosaic.Tactic Idealize.ShloMosaic.ValueIdx

/-- Row `b` of time step `t` of a block. -/
abbrev rowI (t : Fin 4) (b : Fin 256) : Fin 1024 := ⟨256 * t.val + b.val, by omega⟩
/-- Feature `d` of head `h`. -/
abbrev colI (h : Fin 12) (d : Fin 64) : Fin 768 := ⟨64 * h.val + d.val, by omega⟩
/-- Lane `d` of head `h` in the values buffer, whose upper 64 lanes of every head hold ones. -/
abbrev laneI (h : Fin 12) (d : Fin 128) : Fin 1536 := ⟨128 * h.val + d.val, by omega⟩

section Head

variable (Q K : S1024x768.Idx → EReal) (V : S1024x1536.Idx → EReal) (β : S256x256.Idx → EReal)

/-- The unnormalised attention weight of row `b` on row `j`. -/
def weight (t : Fin 4) (h : Fin 12) (b j : Fin 256) : EReal :=
  Ideal.exp ((∑ k : Fin 64, Q (ix2 (rowI t b) (colI h k)) * K (ix2 (rowI t j) (colI h k))) + β (ix2 b j))

/-- The weighted sum of lane `d` of the values buffer. -/
def lane (t : Fin 4) (h : Fin 12) (b : Fin 256) (d : Fin 128) : EReal :=
  ∑ j : Fin 256, weight Q K β t h b j * V (ix2 (rowI t j) (laneI h d))

/-- What the head buffer holds at row `b` of step `t`, feature `d` of head `h`. -/
def headOut (t : Fin 4) (h : Fin 12) (b : Fin 256) (d : Fin 64) : EReal :=
  lane Q K V β t h b ⟨d.val, by omega⟩ * Ideal.div 1 (lane Q K V β t h b ⟨64, by omega⟩)

/-- The head buffer as one array. -/
def heads : S1024x768.Idx → EReal := fun y =>
  headOut Q K V β ⟨(y 0).val / 256, by have := idx2_lt0 y; omega⟩ ⟨(y 1).val / 64, by have := idx2_lt1 y; omega⟩
    ⟨(y 0).val % 256, by omega⟩ ⟨(y 1).val % 64, by omega⟩

end Head

/-- One head's tile from its query, key and value tiles, at an index. -/
theorem tile_apply (β : FVec Ideal S256x256 .bf16) (q k : Vec Ideal S256x64 .bf16) (v : Vec Ideal S256x128 .bf16)
    (b : Fin 256) (d : Fin 64) :
    k0_pay16 β q k v (ix2 b d)
      = (∑ j : Fin 256, Ideal.exp ((∑ l : Fin 64, (q (ix2 b l) : EReal) * k (ix2 j l)) + β (ix2 b j)) * v (ix2 j ⟨d.val, by omega⟩))
        * Ideal.div 1 (∑ j : Fin 256, Ideal.exp ((∑ l : Fin 64, (q (ix2 b l) : EReal) * k (ix2 j l)) + β (ix2 b j)) * v (ix2 j ⟨64, by omega⟩)) := by
  unfold k0_pay16
  rw [shapeCast_self]
  have hs : ∀ j : Fin 256, (matmul (φ₁ := .bf16) (φ₂ := .bf16) dot_S256x64_S256x64_S256x256_1_1_0_0_n_n none q k (constant (F := Ideal) S256x256 .f32 0x00000000#32)) (ix2 b j)
      = ∑ l : Fin 64, (q (ix2 b l) : EReal) * k (ix2 j l) := fun j => by
    refine (Ideal.matmul_transposedRhs_apply none q k _ b j).trans ?_
    rw [constant_apply, Ideal.ofBits_zero_f32, zero_add]
  have ho : ∀ (e : FVec Ideal S256x256 .bf16) (n : Fin 128), (matmul dot_S256x256_S256x128_S256x128_1_0_0_1_n_n none e v (constant (F := Ideal) S256x128 .f32 0x00000000#32)) (ix2 b n)
      = ∑ j : Fin 256, (e (ix2 b j) : EReal) * v (ix2 j n) := fun e n => by
    refine (Ideal.matmul_plain_apply none e v _ b n).trans ?_
    rw [constant_apply, Ideal.ofBits_zero_f32, zero_add]
  rw [truncf_apply, mulf_apply]
  rw [extractStridedSlice_apply _ _ _ (ix2 b d) (ix2 b (⟨d.val, by omega⟩ : Fin 128)) (fun a => by match a with | ⟨0, _⟩ => simp | ⟨1, _⟩ => simp),
    broadcastTo_apply _ _ (ix2 b d) (ix2 b (⟨0, by omega⟩ : Fin 1)) (fun a => by match a with | ⟨0, _⟩ => rfl | ⟨1, _⟩ => rfl),
    divf_apply,
    extractStridedSlice_apply _ _ _ (ix2 b (⟨0, by omega⟩ : Fin 1)) (ix2 b (⟨64, by omega⟩ : Fin 128)) (fun a => by match a with | ⟨0, _⟩ => simp | ⟨1, _⟩ => simp),
    ho, ho]
  have h1 : broadcast S256x1 (Scalar.ofBits (F := Ideal) .f32 0x3F800000#32) (ix2 b (⟨0, by omega⟩ : Fin 1)) = (1 : EReal) := by
    rw [broadcast_apply]; exact Idealize.ShloMosaic.Ideal.ofBits_one_f32
  rw [h1]
  have he : ∀ j : Fin 256, (exp (F := Ideal) (φ := .bf16) (addf (truncf (F := Ideal) .bf16 (matmul (φ₁ := .bf16) (φ₂ := .bf16) dot_S256x64_S256x64_S256x256_1_1_0_0_n_n none q k (constant (F := Ideal) S256x256 .f32 0x00000000#32)) bitsLt_bf16_f32) β)) (ix2 b j)
      = Ideal.exp ((∑ l : Fin 64, (q (ix2 b l) : EReal) * k (ix2 j l)) + β (ix2 b j)) := fun j => by
    rw [← hs j]; rfl
  exact congrArg₂ (· * ·) (Finset.sum_congr rfl fun j _ => congrArg (· * _) (he j))
    (congrArg (Ideal.div 1) (Finset.sum_congr rfl fun j _ => congrArg (· * _) (he j)))

/-- A stored tile is the head buffer's array at the tile's place. -/
theorem tile_eq (Q K : S1024x768.Idx → EReal) (V : S1024x1536.Idx → EReal) (β : S256x256.Idx → EReal)
    (o0 o1 o2 : Nat) (h0 : o0 % 256 = 0) (h1 : o1 % 64 = 0) (h2 : o2 = 2 * o1)
    (inb : ∀ a : Fin 2, ![o0, o1] a + S256x64.size a ≤ S1024x768.size a)
    (inbV : ∀ a : Fin 2, ![o0, o2] a + S256x128.size a ≤ S1024x1536.size a)
    (x : (Rect.unit (s := S1024x768) ![o0, o1] S256x64.size inb).shape.Idx) :
    k0_pay16 (F := Ideal) β (View.ld (Val := Elt Ideal) (e' := .bf16) Q (Rect.unit (s := S1024x768) ![o0, o1] S256x64.size inb))
      (View.ld (Val := Elt Ideal) (e' := .bf16) K (Rect.unit (s := S1024x768) ![o0, o1] S256x64.size inb))
      (View.ld (Val := Elt Ideal) (e' := .bf16) V (Rect.unit (s := S1024x1536) ![o0, o2] S256x128.size inbV)) x
      = heads Q K V β ((Rect.unit (s := S1024x768) ![o0, o1] S256x64.size inb).emb x) := by
  have i0 : o0 + 256 ≤ 1024 := inb 0
  have i1 : o1 + 64 ≤ 768 := inb 1
  obtain ⟨b, d, rfl⟩ : ∃ (b : Fin 256) (d : Fin 64), x = ix2 b d := ⟨x 0, x 1, eq_ix2 x⟩
  refine (tile_apply β _ _ _ b d).trans ?_
  have eb : ∀ (c : Fin 256) (l : Fin 64), (Rect.unit (s := S1024x768) ![o0, o1] S256x64.size inb).idx (ix2 c l)
      = ix2 (rowI ⟨o0 / 256, by omega⟩ c) (colI ⟨o1 / 64, by omega⟩ l) := fun c l => by
    funext a; apply Fin.ext
    match a with
    | ⟨0, _⟩ => show o0 + 1 * c.val = 256 * (o0 / 256) + c.val; omega
    | ⟨1, _⟩ => show o1 + 1 * l.val = 64 * (o1 / 64) + l.val; omega
  have ev : ∀ (c : Fin 256) (l : Fin 128), (Rect.unit (s := S1024x1536) ![o0, o2] S256x128.size inbV).idx (ix2 c l)
      = ix2 (rowI ⟨o0 / 256, by omega⟩ c) (laneI ⟨o1 / 64, by omega⟩ l) := fun c l => by
    funext a; apply Fin.ext
    match a with
    | ⟨0, _⟩ => show o0 + 1 * c.val = 256 * (o0 / 256) + c.val; omega
    | ⟨1, _⟩ => show o2 + 1 * l.val = 128 * (o1 / 64) + l.val; omega
  rw [show (Rect.unit (s := S1024x768) ![o0, o1] S256x64.size inb).emb (ix2 b d)
      = ix2 (rowI ⟨o0 / 256, by omega⟩ b) (colI ⟨o1 / 64, by omega⟩ d) from eb b d]
  have r0 : (256 * (o0 / 256) + b.val) / 256 = o0 / 256 := by omega
  have r1 : (256 * (o0 / 256) + b.val) % 256 = b.val := by omega
  have r2 : (64 * (o1 / 64) + d.val) / 64 = o1 / 64 := by omega
  have r3 : (64 * (o1 / 64) + d.val) % 64 = d.val := by omega
  unfold heads
  simp only [r0, r1, r2, r3]
  unfold headOut lane weight
  simp only [View.ld, eb, ev]

/-- The mask the body adds to the scores, as the body spells it. -/
def bias : FVec Ideal S256x256 .bf16 :=
  k0_pay12 (k0_pay9 (iota .tc S256x256 32 [0] iota_S256x256_d0_w32) 32#32 k0_pay7 k0_pay8 0#32) k0_pay10 k0_pay11

/-! Every stored tile is the same function of its operands, whichever part of the body computes it. -/

section Same

variable (u : IVec S256x256 1) (a b : FVec Ideal S256x256 .f32) (β : FVec Ideal S256x256 .bf16)
  (q k : Vec Ideal S256x64 .bf16) (v : Vec Ideal S256x128 .bf16)

theorem same13 : k0_pay13 u a b q k v = k0_pay16 (k0_pay12 u a b) q k v := rfl
theorem same14 : k0_pay15 (k0_pay14 u a b q k v) = k0_pay16 (k0_pay12 u a b) q k v := rfl
theorem same17 : k0_pay18 (k0_pay17 β q k v) = k0_pay16 β q k v := rfl
theorem same19 : k0_pay19 β q k v = k0_pay16 β q k v := rfl
theorem same20 : k0_pay21 (k0_pay20 β q k v) = k0_pay16 β q k v := rfl
theorem same22 : k0_pay22 β q k v = k0_pay16 β q k v := rfl
theorem same23 : k0_pay24 (k0_pay23 β q k v) = k0_pay16 β q k v := rfl
theorem same25 : k0_pay25 β q k v = k0_pay16 β q k v := rfl
theorem same26 : k0_pay27 (k0_pay26 β q k v) = k0_pay16 β q k v := rfl
theorem same28 : k0_pay28 β q k v = k0_pay16 β q k v := rfl
theorem same29 : k0_pay30 (k0_pay29 β q k v) = k0_pay16 β q k v := rfl
theorem same31 : k0_pay31 β q k v = k0_pay16 β q k v := rfl
theorem same32 : k0_pay33 (k0_pay32 β q k v) = k0_pay16 β q k v := rfl
theorem same34 : k0_pay34 β q k v = k0_pay16 β q k v := rfl
theorem same35 : k0_pay36 (k0_pay35 β q k v) = k0_pay16 β q k v := rfl
theorem same37 : k0_pay37 β q k v = k0_pay16 β q k v := rfl
theorem same38 : k0_pay39 (k0_pay38 β q k v) = k0_pay16 β q k v := rfl
theorem same40 : k0_pay40 β q k v = k0_pay16 β q k v := rfl
theorem same41 : k0_pay42 (k0_pay41 β q k v) = k0_pay16 β q k v := rfl
theorem same43 : k0_pay43 β q k v = k0_pay16 β q k v := rfl
theorem same44 : k0_pay45 (k0_pay44 β q k v) = k0_pay16 β q k v := rfl
theorem same46 : k0_pay46 β q k v = k0_pay16 β q k v := rfl
theorem same47 : k0_pay48 (k0_pay47 β q k v) = k0_pay16 β q k v := rfl
theorem same49 : k0_pay49 β q k v = k0_pay16 β q k v := rfl
theorem same50 : k0_pay51 (k0_pay50 β q k v) = k0_pay16 β q k v := rfl
theorem same52 : k0_pay52 β q k v = k0_pay16 β q k v := rfl
theorem same53 : k0_pay54 (k0_pay53 β q k v) = k0_pay16 β q k v := rfl
theorem same55 : k0_pay55 β q k v = k0_pay16 β q k v := rfl
theorem same56 : k0_pay57 (k0_pay56 β q k v) = k0_pay16 β q k v := rfl
theorem same58 : k0_pay58 β q k v = k0_pay16 β q k v := rfl
theorem same59 : k0_pay60 (k0_pay59 β q k v) = k0_pay16 β q k v := rfl
theorem same61 : k0_pay61 β q k v = k0_pay16 β q k v := rfl
theorem same62 : k0_pay63 (k0_pay62 β q k v) = k0_pay16 β q k v := rfl
theorem same64 : k0_pay64 β q k v = k0_pay16 β q k v := rfl
theorem same65 : k0_pay66 (k0_pay65 β q k v) = k0_pay16 β q k v := rfl
theorem same67 : k0_pay67 β q k v = k0_pay16 β q k v := rfl
theorem same68 : k0_pay69 (k0_pay68 β q k v) = k0_pay16 β q k v := rfl
theorem same70 : k0_pay70 β q k v = k0_pay16 β q k v := rfl
theorem same71 : k0_pay72 (k0_pay71 β q k v) = k0_pay16 β q k v := rfl
theorem same73 : k0_pay73 β q k v = k0_pay16 β q k v := rfl
theorem same74 : k0_pay75 (k0_pay74 β q k v) = k0_pay16 β q k v := rfl
theorem same76 : k0_pay76 β q k v = k0_pay16 β q k v := rfl
theorem same77 : k0_pay78 (k0_pay77 β q k v) = k0_pay16 β q k v := rfl
theorem same79 : k0_pay79 β q k v = k0_pay16 β q k v := rfl
theorem same80 : k0_pay81 (k0_pay80 β q k v) = k0_pay16 β q k v := rfl
theorem same82 : k0_pay82 β q k v = k0_pay16 β q k v := rfl
theorem same83 : k0_pay1 (k0_pay83 β q k v) = k0_pay16 β q k v := rfl

end Same

section Out

variable (c : Dev nD) (i : grid0.Coords) (arg1 : Memref sig .tc .vmem S4x256x768 .f32) (harg1 : arg1.IsWhole) (arg2 : Memref sig .tc .vmem S768x768 .bf16) (harg2 : arg2.IsWhole) (arg3 : Memref sig .tc .vmem S768x768 .bf16) (harg3 : arg3.IsWhole) (arg4 : Memref sig .tc .vmem S768x768 .bf16) (harg4 : arg4.IsWhole) (arg5 : Memref sig .tc .vmem S768x768 .bf16) (harg5 : arg5.IsWhole) (arg6 : Memref sig .tc .vmem S4x256x768 .f32) (harg6 : arg6.IsWhole) (arg7 : Memref sig .tc .vmem S1024x768 .bf16) (harg7 : arg7.IsWhole) (arg8 : Memref sig .tc .vmem S1024x768 .bf16) (harg8 : arg8.IsWhole) (arg9 : Memref sig .tc .vmem S1024x1536 .bf16) (harg9 : arg9.IsWhole) (arg10 : Memref sig .tc .vmem S1024x768 .bf16) (harg10 : arg10.IsWhole)
  (x0 : Vec Ideal S4x256x768 .f32) (x1 : Vec Ideal S768x768 .bf16) (x2 : Vec Ideal S768x768 .bf16) (x3 : Vec Ideal S768x768 .bf16) (x4 : Vec Ideal S768x768 .bf16)

set_option maxHeartbeats 4000000 in
/-- What the body leaves in the output block: the heads' array times the output weights. -/
theorem out_eq : out0_A_5 c i arg1 harg1 arg2 harg2 arg3 harg3 arg4 harg4 arg5 harg5 arg6 harg6 arg7 harg7 arg8 harg8 arg9 harg9 arg10 harg10 x0 x1 x2 x3 x4
    = k0_pay2 (F := Ideal) (heads (k0_pay4 x0 x1) (k0_pay5 x0 x2) (k0_pay6 x0 x3) bias) x4 := by
  have h2 : (![0, 0] : Fin 2 → Nat) = fun _ => 0 := funext fun a => by fin_cases a <;> rfl
  have h3 : (![0, 0, 0] : Fin 3 → Nat) = fun _ => 0 := funext fun a => by fin_cases a <;> rfl
  unfold out0_A_5
  rw [View.read_writes_junk_eq_canon]
  unfold kernelRun0_A
  dsimp only
  sl_unfold_words
  rw [View.canon_unit_zero h3]
  simp only [View.readAt_eq_ld, harg1.read_unread, harg2.read_unread, harg3.read_unread, harg4.read_unread, harg5.read_unread,
    View.ld_unit_zero (S := S768x768) h2, View.ld_unit_zero (S := S4x256x768) h3, View.readCov_eq_canon',
    View.canon_unit_zero (S := S1024x768) h2, View.canon_unit_zero (S := S1024x1536) h2]
  simp only [same13, same14, same17, same19, same20, same22, same23, same25, same26, same28, same29, same31, same32, same34, same35, same37, same38, same40, same41, same43, same44, same46, same47, same49, same50, same52, same53, same55, same56, same58, same59, same61, same62, same64, same65, same67, same68, same70, same71, same73, same74, same76, same77, same79, same80, same82, same83]
  rw [show k0_pay12 (k0_pay9 (iota .tc S256x256 32 [0] iota_S256x256_d0_w32) 32#32 k0_pay7 k0_pay8 0#32) k0_pay10 k0_pay11 = bias from rfl]
  generalize k0_pay4 x0 x1 = Q, k0_pay5 x0 x2 = K, k0_pay6 x0 x3 = V
  refine congrArg (fun a => k0_pay2 (F := Ideal) a x4) (funext fun y => ?_)
  have hy : (Rect.unit (s := S1024x768) ![0, 0] ![1024, 768] inb_S1024x768_S1024x768_0_0).idx y = y := by
    funext a; apply Fin.ext
    match a with
    | ⟨0, _⟩ => show 0 + 1 * _ = _; omega
    | ⟨1, _⟩ => show 0 + 1 * _ = _; omega
  rw [View.canon_apply_of_pieces (heads Q K V bias) _ ?_ _ ?_, hy]
  rotate_left
  · refine View.cover_of_tiledL (s := S1024x768) _ S256x64.size ?_ _
    sl_kernel_rfl
  repeat' first
    | exact fun _ h => absurd h List.not_mem_nil
    | refine List.forall_mem_cons.2 ⟨fun x => tile_eq Q K V bias _ _ _ (by decide) (by decide) (by decide) _ _ x, ?_⟩

end Out

end Cert.KernelIdeal.Block

end
-- ==== Proof.Payload.lean ====
/- The products and the mask of the kernel's body, each read at one index. -/
module

public import proofs.«01_k».proof.Proof.Block

@[expose] public section

noncomputable section

open scoped BigOperators

namespace Cert.KernelIdeal.Block

open Cert.KernelIdeal Cert.KernelIdeal.Gen Idealize.ShloMosaic Idealize.ShloMosaic.TcCoe Idealize.SL.Sem
open Idealize.ShloMosaic.Tactic Idealize.ShloMosaic.ValueIdx

/-- A row of the block flattened to 1024 rows. -/
theorem flat_apply (x : S4x256x768.Idx → EReal) (t : Fin 4) (b : Fin 256) (d : Fin 768) :
    k0_pay3 (F := Ideal) x (ix2 (rowI t b) d) = x (ix3 t b d) := by
  unfold k0_pay3
  rw [truncf_apply]
  exact shapeCast_apply _ _ _ (ix3 t b d) (by
    rw [Shape.rowMajor_val_three, Shape.rowMajor_val_two]
    show (t.val * 256 + b.val) * 768 + d.val = (256 * t.val + b.val) * 768 + d.val
    omega)

/-- The product that every projection is. -/
theorem product_apply (a : FVec Ideal S1024x768 .bf16) (w : FVec Ideal S768x768 .bf16) (r : Fin 1024) (n : Fin 768) :
    (matmul dot_S1024x768_S768x768_S1024x768_1_0_0_1_n_n none a w (constant (F := Ideal) S1024x768 .f32 0x00000000#32)) (ix2 r n)
      = ∑ d : Fin 768, (a (ix2 r d) : EReal) * w (ix2 d n) := by
  refine (Ideal.matmul_plain_apply none a w _ r n).trans ?_
  rw [constant_apply, Ideal.ofBits_zero_f32, zero_add]

theorem pay4_apply (x : S4x256x768.Idx → EReal) (w : S768x768.Idx → EReal) (t : Fin 4) (b : Fin 256) (n : Fin 768) :
    k0_pay4 (F := Ideal) x w (ix2 (rowI t b) n) = ∑ d : Fin 768, x (ix3 t b d) * w (ix2 d n) := by
  unfold k0_pay4
  rw [shapeCast_self, shapeCast_self, truncf_apply]
  exact (product_apply _ _ _ _).trans (Finset.sum_congr rfl fun d _ => congrArg (· * _) (flat_apply x t b d))

theorem pay5_apply (x : S4x256x768.Idx → EReal) (w : S768x768.Idx → EReal) (t : Fin 4) (b : Fin 256) (n : Fin 768) :
    k0_pay5 (F := Ideal) x w (ix2 (rowI t b) n) = ∑ d : Fin 768, x (ix3 t b d) * w (ix2 d n) := pay4_apply x w t b n

/-- The three-axis form of the values buffer. -/
abbrev wide (y : S1024x768.Idx → EReal) : FVec Ideal S1024x12x128 .bf16 :=
  concatenate S1024x12x128 2 [⟨S1024x12x64, shapeCast S1024x12x64 y shapeCasts_S1024x768_S1024x12x64⟩,
    ⟨S1024x12x64, broadcast S1024x12x64 (Scalar.ofBits (F := Ideal) .bf16 0x3F80#16)⟩] concatenates_S1024x12x64_S1024x12x64_S1024x12x128_d2

theorem wide_low (y : S1024x768.Idx → EReal) (r : Fin 1024) (h : Fin 12) (d : Fin 64) :
    wide y (ix3 r h ⟨d.val, by omega⟩) = y (ix2 r (colI h d)) := by
  refine (concatenate_pair_apply_left (t := S1024x12x128) (s₁ := S1024x12x64) (s₂ := S1024x12x64) (2 : Fin 3) _ _ concatenates_S1024x12x64_S1024x12x64_S1024x12x128_d2 (ix3 r h (⟨d.val, by omega⟩ : Fin 128)) rfl (ix3 r h d) (fun a => by match a with | ⟨0, _⟩ => rfl | ⟨1, _⟩ => rfl | ⟨2, _⟩ => rfl)).trans ?_
  exact shapeCast_apply _ _ _ (ix2 r (colI h d)) (by
    rw [Shape.rowMajor_val_three, Shape.rowMajor_val_two]
    show r.val * 768 + (64 * h.val + d.val) = (r.val * 12 + h.val) * 64 + d.val
    omega)

theorem wide_high (y : S1024x768.Idx → EReal) (r : Fin 1024) (h : Fin 12) (d : Fin 64) :
    wide y (ix3 r h ⟨d.val + 64, by omega⟩) = 1 := by
  refine (concatenate_pair_apply_right (t := S1024x12x128) (s₁ := S1024x12x64) (s₂ := S1024x12x64) (2 : Fin 3) _ _ concatenates_S1024x12x64_S1024x12x64_S1024x12x128_d2 (ix3 r h (⟨d.val + 64, by omega⟩ : Fin 128)) rfl rfl (ix3 r h d) (fun a ha => by
    match a with
    | ⟨0, _⟩ => rfl
    | ⟨1, _⟩ => rfl
    | ⟨2, _⟩ => exact absurd rfl ha) rfl).trans ?_
  rw [broadcast_apply]
  exact Idealize.ShloMosaic.Ideal.ofBits_one_bf16

theorem pay6_wide (x : S4x256x768.Idx → EReal) (w : S768x768.Idx → EReal) (r : Fin 1024) (h : Fin 12) (d : Fin 128) :
    k0_pay6 (F := Ideal) x w (ix2 r (laneI h d)) = wide (k0_pay4 (F := Ideal) x w) (ix3 r h d) := by
  unfold k0_pay6 k0_pay4
  dsimp only
  rw [shapeCast_self, shapeCast_self, shapeCast_self]
  exact shapeCast_apply _ _ _ (ix3 r h d) (by
    rw [Shape.rowMajor_val_three, Shape.rowMajor_val_two]
    show (r.val * 12 + h.val) * 128 + d.val = r.val * 1536 + (128 * h.val + d.val)
    omega)

/-- The lower 64 lanes of a head hold its values, … -/
theorem pay6_low (x : S4x256x768.Idx → EReal) (w : S768x768.Idx → EReal) (t : Fin 4) (b : Fin 256) (h : Fin 12) (d : Fin 64) :
    k0_pay6 (F := Ideal) x w (ix2 (rowI t b) (laneI h ⟨d.val, by omega⟩)) = ∑ k : Fin 768, x (ix3 t b k) * w (ix2 k (colI h d)) :=
  (pay6_wide x w _ _ _).trans ((wide_low _ _ _ _).trans (pay4_apply x w t b _))

/-- … lane 64 holds one. -/
theorem pay6_one (x : S4x256x768.Idx → EReal) (w : S768x768.Idx → EReal) (r : Fin 1024) (h : Fin 12) :
    k0_pay6 (F := Ideal) x w (ix2 r (laneI h ⟨64, by omega⟩)) = 1 :=
  (pay6_wide x w _ _ _).trans (wide_high _ r h 0)

theorem pay2_apply (a : S1024x768.Idx → EReal) (w : S768x768.Idx → EReal) (t : Fin 4) (b : Fin 256) (n : Fin 768) :
    k0_pay2 (F := Ideal) a w (ix3 t b n) = ∑ f : Fin 768, a (ix2 (rowI t b) f) * w (ix2 f n) := by
  unfold k0_pay2
  rw [shapeCast_self]
  refine (shapeCast_apply _ _ _ (ix2 (rowI t b) n) (by
    rw [Shape.rowMajor_val_three, Shape.rowMajor_val_two]
    show (256 * t.val + b.val) * 768 + n.val = (t.val * 256 + b.val) * 768 + n.val
    omega)).trans ?_
  exact product_apply a w _ _

/-- The row's (or column's) group number, as the body computes it on words. -/
def groupWord (w : BitVec 32) : BitVec 32 :=
  Scalar.select (IntOp.andi
      (IntOp.cmpi .ne (IntOp.subi ((IntOp.cmpi .sgt w 0#32).setWidth 32) ((IntOp.cmpi .slt w 0#32).setWidth 32)) 1#32)
      (IntOp.cmpi .ne (IntOp.remsi .vector w 32#32) 0#32))
    (IntOp.subi (IntOp.divsi .vector w 32#32) 1#32) (IntOp.divsi .vector w 32#32)

/-- The group number of word `n` is `n / 32`. -/
theorem groupWord_eq : ∀ n : Fin 256, groupWord (BitVec.ofNat 32 n.val) = BitVec.ofNat 32 (n.val / 32) := by
  decide +kernel

theorem mask_apply (b j : Fin 256) :
    k0_pay9 (iota .tc S256x256 32 [0] iota_S256x256_d0_w32) 32#32 k0_pay7 k0_pay8 0#32 (ix2 b j)
      = IntOp.cmpi .eq (groupWord (BitVec.ofNat 32 b.val)) (groupWord (BitVec.ofNat 32 j.val)) := by
  have e0 : iota .tc S256x256 32 [0] iota_S256x256_d0_w32 (ix2 b j) = BitVec.ofNat 32 b.val := iota_single_apply _ _ _ _ _ _
  have e1 : iota .tc S256x256 32 [1] iota_S256x256_d1_w32 (ix2 b j) = BitVec.ofNat 32 j.val := iota_single_apply _ _ _ _ _ _
  rw [← e0, ← e1]
  rfl

/-- The mask is zero inside a group of 32 rows and bottom outside. -/
theorem bias_apply (b j : Fin 256) : bias (ix2 b j) = if b.val / 32 = j.val / 32 then (0 : EReal) else ⊥ := by
  have hw : IntOp.cmpi .eq (groupWord (BitVec.ofNat 32 b.val)) (groupWord (BitVec.ofNat 32 j.val)) = BitVec.ofBool (decide (b.val / 32 = j.val / 32)) := by
    rw [groupWord_eq, groupWord_eq]
    have hb := b.isLt
    have hj := j.isLt
    show BitVec.ofBool (BitVec.ofNat 32 (b.val / 32) == BitVec.ofNat 32 (j.val / 32)) = _
    refine congrArg BitVec.ofBool ?_
    rw [Bool.eq_iff_iff]
    simp only [beq_iff_eq, decide_eq_true_eq, ← BitVec.toNat_inj, BitVec.toNat_ofNat]
    omega
  unfold bias k0_pay12
  rw [truncf_apply, select_apply, mask_apply, hw]
  by_cases h : b.val / 32 = j.val / 32
  · rw [if_pos h, decide_eq_true h]
    exact Ideal.ofBits_zero_f32
  · rw [if_neg h, decide_eq_false h]
    rfl

end Cert.KernelIdeal.Block

end
-- ==== Proof.KernelValue.lean ====
/- The kernel's result as one array of its arguments: every block is the same function of its four time steps, and the 64
   blocks cover the array. -/
module

public import proofs.«01_k».proof.Proof.Payload
public import proofs.«01_k».proof.Proof.Softmax
public import proofs.«01_k».proof.Proof.Gen.KernelIdeal.Value
public import Idealize.ShloMosaic.Lib.Pipeline.ValueKit

@[expose] public section

noncomputable section

open scoped BigOperators

namespace Cert.KernelIdeal.Result

open Cert.KernelIdeal Cert.KernelIdeal.Gen Cert.KernelIdeal.Block Idealize.ShloMosaic.TcCoe Idealize.SL.Sem
open Idealize.ShloMosaic hiding ix2 ix3 truncf_apply mulf_apply
open Idealize.ShloMosaic.ValueIdx Attention

section Spec

variable (x : S256x256x768.Idx → EReal) (wq wk wv wo : S768x768.Idx → EReal)

/-- One entry of `x @ w.T`. -/
def proj (w : S768x768.Idx → EReal) (t b : Fin 256) (f : Fin 768) : EReal := ∑ d : Fin 768, x (ix3 t b d) * w (ix2 f d)

/-- The query weights as the kernel is handed them: each times one eighth. -/
def scaled : S768x768.Idx → EReal := fun i => wq i * Ideal.ofBits .f32 0x3E000000#32

/-- The unnormalised weight of row `j` for row `b`, nothing for a row of another group. -/
def expo (t : Fin 256) (h : Fin 12) (b j : Fin 256) : EReal :=
  Ideal.exp ((∑ k : Fin 64, proj x (scaled wq) t b (feat h k) * proj x wk t j (feat h k)) + if b.val / 32 = j.val / 32 then (0 : EReal) else ⊥)

/-- One entry of the attention's output before the last projection. -/
def context (t b : Fin 256) (h : Fin 12) (d : Fin 64) : EReal :=
  (∑ j : Fin 256, expo x wq wk t h b j * proj x wv t j (feat h d)) * Ideal.div 1 (∑ j : Fin 256, expo x wq wk t h b j * 1)

/-- One entry of the result. -/
def out (t b : Fin 256) (n : Fin 768) : EReal :=
  ∑ f : Fin 768, context x wq wk wv t b ⟨f.val / 64, by omega⟩ ⟨f.val % 64, by omega⟩ * wo (ix2 n f)

end Spec

/-- A block computed from the time steps `4 p … 4 p + 3` and the transposed weights is those steps of the result. -/
theorem block_apply (x : S256x256x768.Idx → EReal) (wq wk wv wo : S768x768.Idx → EReal)
    (x0 : S4x256x768.Idx → EReal) (x1 x2 x3 x4 : S768x768.Idx → EReal) (s : Fin 4 → Fin 256)
    (e0 : ∀ t b d, x0 (ix3 t b d) = x (ix3 (s t) b d)) (e1 : ∀ d n, x1 (ix2 d n) = scaled wq (ix2 n d))
    (e2 : ∀ d n, x2 (ix2 d n) = wk (ix2 n d)) (e3 : ∀ d n, x3 (ix2 d n) = wv (ix2 n d)) (e4 : ∀ d n, x4 (ix2 d n) = wo (ix2 n d))
    (t : Fin 4) (b : Fin 256) (n : Fin 768) :
    k0_pay2 (F := Ideal) (heads (k0_pay4 (F := Ideal) x0 x1) (k0_pay5 (F := Ideal) x0 x2) (k0_pay6 (F := Ideal) x0 x3) bias) x4 (ix3 t b n) = out x wq wk wv wo (s t) b n := by
  have hq : ∀ b f, k0_pay4 (F := Ideal) x0 x1 (ix2 (rowI t b) f) = proj x (scaled wq) (s t) b f := fun b f =>
    (pay4_apply x0 x1 t b f).trans (Finset.sum_congr rfl fun d _ => by rw [e0, e1])
  have hk : ∀ b f, k0_pay5 (F := Ideal) x0 x2 (ix2 (rowI t b) f) = proj x wk (s t) b f := fun b f =>
    (pay5_apply x0 x2 t b f).trans (Finset.sum_congr rfl fun d _ => by rw [e0, e2])
  have hv : ∀ b h (d : Fin 64), k0_pay6 (F := Ideal) x0 x3 (ix2 (rowI t b) (laneI h ⟨d.val, by omega⟩)) = proj x wv (s t) b (feat h d) := fun b h d =>
    (pay6_low x0 x3 t b h d).trans (Finset.sum_congr rfl fun k _ => by rw [e0, e3]; rfl)
  have hw : ∀ h b j, weight (k0_pay4 (F := Ideal) x0 x1) (k0_pay5 (F := Ideal) x0 x2) bias t h b j = expo x wq wk (s t) h b j := by
    intro h b j
    unfold weight expo
    rw [bias_apply]
    refine congrArg (fun z => Ideal.exp (z + _)) (Finset.sum_congr rfl fun k _ => ?_)
    rw [hq, hk]; rfl
  rw [pay2_apply]
  refine Finset.sum_congr rfl fun f _ => ?_
  rw [e4]
  refine congrArg (· * _) ?_
  have er : (⟨(rowI t b).val / 256, by have := (rowI t b).isLt; omega⟩ : Fin 4) = t := Fin.ext (show (256 * t.val + b.val) / 256 = t.val by omega)
  have eb : (⟨(rowI t b).val % 256, by omega⟩ : Fin 256) = b := Fin.ext (show (256 * t.val + b.val) % 256 = b.val by omega)
  show headOut _ _ _ _ (⟨(rowI t b).val / 256, _⟩ : Fin 4) ⟨f.val / 64, _⟩ (⟨(rowI t b).val % 256, _⟩ : Fin 256) ⟨f.val % 64, _⟩ = _
  rw [er, eb]
  unfold headOut lane context
  refine congrArg₂ (· * ·) (Finset.sum_congr rfl fun j _ => ?_) (congrArg (Ideal.div 1) (Finset.sum_congr rfl fun j _ => ?_))
  · rw [hw]; exact congrArg (_ * ·) (hv j _ ⟨f.val % 64, by omega⟩)
  · rw [hw, pay6_one]

variable (m : (ℓ : Loc nD τ sig) → Buf (Elt Ideal) ℓ)

/-- The argument arrays as arrays of extended reals. -/
abbrev A0 (c : Dev nD) : S256x256x768.Idx → EReal := m ((c : Thread nD τ).loc main_arg0)
abbrev A3 (c : Dev nD) : S768x768.Idx → EReal := m ((c : Thread nD τ).loc main_arg3)
abbrev A4 (c : Dev nD) : S768x768.Idx → EReal := m ((c : Thread nD τ).loc main_arg4)
abbrev A5 (c : Dev nD) : S768x768.Idx → EReal := m ((c : Thread nD τ).loc main_arg5)
abbrev A6 (c : Dev nD) : S768x768.Idx → EReal := m ((c : Thread nD τ).loc main_arg6)

/-- A weight handed to the kernel transposed. -/
theorem turned (w : S768x768.Idx → EReal) (d n : Fin 768) :
    (transpose S768x768 [1, 0] w transposes_S768x768_S768x768_1_0) (ix2 d n) = w (ix2 n d) :=
  transpose_apply [1, 0] w transposes_S768x768_S768x768_1_0 (ix2 d n) (ix2 n d) (fun b => match b with
    | ⟨0, _⟩ => rfl
    | ⟨1, _⟩ => rfl)

theorem V_main_v3 (c : Dev nD) (d n : Fin 768) : (V m c main_v3 : S768x768.Idx → EReal) (ix2 d n) = scaled (A3 m c) (ix2 n d) := by
  have e : (V m c main_v3 : S768x768.Idx → EReal) = (truncf .bf16 (mulf (transpose S768x768 [1, 0] (A3 m c) transposes_S768x768_S768x768_1_0 : FVec Ideal S768x768 .f32)
      (broadcastInDim S768x768 ![] bcast_S_S768x768 (constant (F := Ideal) S_ .f32 0x3E000000#32))) bitsLt_bf16_f32 : FVec Ideal S768x768 .bf16) := by
    show StableHlo.after hostOps0 _ (Proc.devRef .tc main_v3) = _
    after_results
  rw [e, truncf_apply, mulf_apply, turned]
  rfl

theorem V_main_v5 (c : Dev nD) (d n : Fin 768) : (V m c main_v5 : S768x768.Idx → EReal) (ix2 d n) = A4 m c (ix2 n d) := by
  have e : (V m c main_v5 : S768x768.Idx → EReal) = (truncf .bf16 (transpose S768x768 [1, 0] (A4 m c) transposes_S768x768_S768x768_1_0 : FVec Ideal S768x768 .f32) bitsLt_bf16_f32 : FVec Ideal S768x768 .bf16) := by
    show StableHlo.after hostOps0 _ (Proc.devRef .tc main_v5) = _
    after_results
  rw [e, truncf_apply, turned]

theorem V_main_v7 (c : Dev nD) (d n : Fin 768) : (V m c main_v7 : S768x768.Idx → EReal) (ix2 d n) = A5 m c (ix2 n d) := by
  have e : (V m c main_v7 : S768x768.Idx → EReal) = (truncf .bf16 (transpose S768x768 [1, 0] (A5 m c) transposes_S768x768_S768x768_1_0 : FVec Ideal S768x768 .f32) bitsLt_bf16_f32 : FVec Ideal S768x768 .bf16) := by
    show StableHlo.after hostOps0 _ (Proc.devRef .tc main_v7) = _
    after_results
  rw [e, truncf_apply, turned]

theorem V_main_v9 (c : Dev nD) (d n : Fin 768) : (V m c main_v9 : S768x768.Idx → EReal) (ix2 d n) = A6 m c (ix2 n d) := by
  have e : (V m c main_v9 : S768x768.Idx → EReal) = (truncf .bf16 (transpose S768x768 [1, 0] (A6 m c) transposes_S768x768_S768x768_1_0 : FVec Ideal S768x768 .f32) bitsLt_bf16_f32 : FVec Ideal S768x768 .bf16) := by
    show StableHlo.after hostOps0 _ (Proc.devRef .tc main_v9) = _
    after_results
  rw [e, truncf_apply, turned]

/-- Every window's block index at a grid point: the two activation windows move with the point, the weights stay. -/
theorem index_at : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] :=
  (by decide +kernel : ∀ t : Fin grid0.N, _)

/-- Time step `s` of grid point `p`. -/
def step (p : Fin cfg0.N) (s : Fin 4) : Fin 256 := ⟨4 * p.val + s.val, by have h : p.val < 64 := p.isLt; omega⟩

/-- The kernel's result array, of the arguments. -/
def array (c : Dev nD) : S256x256x768.Idx → EReal := fun i => out (A0 m c) (A3 m c) (A4 m c) (A5 m c) (A6 m c) (i 0) (i 1) (i 2)

theorem iblk_x (c : Dev nD) (p : Fin cfg0.N) (t : Fin 4) (b : Fin 256) (d : Fin 768) :
    (iblk m c 0 p : S4x256x768.Idx → EReal) (ix3 t b d) = A0 m c (ix3 (step p t) b d) := by
  blk_simp [iblk]
  rw [V_main_arg0]
  refine congrArg (A0 m c) ?_
  blk_ext [index_at p, step]
  show p.val * 4 + t.val = 4 * p.val + t.val
  omega

theorem iblk_q (c : Dev nD) (p : Fin cfg0.N) : iblk m c 1 p = V m c main_v3 := by
  blk_ext! [iblk, index_at p]

theorem iblk_k (c : Dev nD) (p : Fin cfg0.N) : iblk m c 2 p = V m c main_v5 := by
  blk_ext! [iblk, index_at p]

theorem iblk_v (c : Dev nD) (p : Fin cfg0.N) : iblk m c 3 p = V m c main_v7 := by
  blk_ext! [iblk, index_at p]

theorem iblk_o (c : Dev nD) (p : Fin cfg0.N) : iblk m c 4 p = V m c main_v9 := by
  blk_ext! [iblk, index_at p]

theorem final (c : Dev nD) : (dats m 0 c).arrAt 5 cfg0.N = array m c := by
  refine (dats m 0 c).arrAt_eq_of_covers 5 _ (by decide +kernel) fun p hf y => ?_
  blk_simp
  rw [after0_5]
  unfold outsAt0
  rw [out_eq, iblk_q, iblk_k, iblk_v, iblk_o]
  have hy : (y : S4x256x768.Idx) = ix3 (⟨(y 0).val, (y 0).isLt⟩ : Fin 4) (⟨(y 1).val, (y 1).isLt⟩ : Fin 256) (⟨(y 2).val, (y 2).isLt⟩ : Fin 768) := ValueIdx.eq_ix3 _
  refine (congrArg _ hy).trans ((block_apply (A0 m c) (A3 m c) (A4 m c) (A5 m c) (A6 m c) _ _ _ _ _ (step p) (iblk_x m c p) (V_main_v3 m c) (V_main_v5 m c)
    (V_main_v7 m c) (V_main_v9 m c) _ _ _).trans ?_)
  have e0 : step p (⟨(y 0).val, (y 0).isLt⟩ : Fin 4) = (win0_5.blk p).view.emb y 0 := by
    apply Fin.ext
    blk_simp [index_at p, step]
    show 4 * p.val + (y 0).val = p.val * 4 + (y 0).val
    omega
  have e1 : (⟨(y 1).val, (y 1).isLt⟩ : Fin 256) = (win0_5.blk p).view.emb y 1 := by
    apply Fin.ext
    blk_simp [index_at p]
  have e2 : (⟨(y 2).val, (y 2).isLt⟩ : Fin 768) = (win0_5.blk p).view.emb y 2 := by
    apply Fin.ext
    blk_simp [index_at p]
  unfold array
  rw [← e0, ← e1, ← e2]

end Cert.KernelIdeal.Result
-- ==== Proof.Agree.lean ====
/- Under the precondition the two programs' results are one array. -/
module

public import proofs.«01_k».proof.Defs
public import proofs.«01_k».proof.Proof.RefValue
public import proofs.«01_k».proof.Proof.KernelValue
public import proofs.«01_k».proof.Proof.Gen.Pre_sorted_and_finite

@[expose] public section

noncomputable section

open scoped BigOperators

namespace Attention

open Idealize.ShloMosaic Idealize.ShloMosaic.TcCoe

abbrev SX : Shape := ⟨3, ![256, 256, 768]⟩
abbrev SW : Shape := ⟨2, ![768, 768]⟩

/-- Every entry is a real number. -/
def Finite {s : Shape} (x : s.Idx → EReal) : Prop := ∃ r : s.Idx → ℝ, ∀ i, x i = (r i : EReal)

/-- The scale both programs use is a real number. -/
theorem scale_coe : ∃ c : ℝ, Ideal.ofBits .f32 0x3E000000#32 = (c : EReal) := by
  refine ⟨EReal.toReal (Ideal.ofBits .f32 0x3E000000#32), (EReal.coe_toReal ?_ ?_).symm⟩
  all_goals
    simp [Ideal.ofBits, Ideal.ieee]
    rw [← EReal.coe_mul]
    first | exact EReal.coe_ne_top _ | exact EReal.coe_ne_bot _

section Context

variable (x : SX.Idx → EReal) (wq wk wv : SW.Idx → EReal) (hx : Finite x) (hq : Finite wq) (hk : Finite wk)

include hx hq hk

/-- One real number is both the reference's score and the kernel's. -/
theorem score_coe (t : Fin 256) (g : Fin 8) (h : Fin 12) (i j : Fin 32) : ∃ σ : ℝ,
    (∑ k : Fin 64, Cert.KernelIdeal.Result.proj x (Cert.KernelIdeal.Result.scaled wq) t (seat g i) (feat h k) * Cert.KernelIdeal.Result.proj x wk t (seat g j) (feat h k)) = (σ : EReal)
    ∧ Cert.ReferenceIdeal.RefValue.score x wq wk t g h i j = (σ : EReal) := by
  obtain ⟨X, eX⟩ := hx
  obtain ⟨A, eA⟩ := hq
  obtain ⟨B, eB⟩ := hk
  obtain ⟨c, ec⟩ := scale_coe
  obtain ⟨σ, e1, e2⟩ := score_eq (fun d => X (ValueIdx.ix3 t (seat g i) d)) (fun d => X (ValueIdx.ix3 t (seat g j) d))
    (fun k d => A (ValueIdx.ix2 (feat h k) d)) (fun k d => B (ValueIdx.ix2 (feat h k) d)) c
  refine ⟨σ, ?_, ?_⟩
  · rw [← e1]
    simp only [Cert.KernelIdeal.Result.proj, Cert.KernelIdeal.Result.scaled, eX, eA, eB, ec]
  · rw [← e2]
    simp only [Cert.ReferenceIdeal.RefValue.score, Cert.ReferenceIdeal.RefValue.proj, eX, eA, eB, ec]

/-- The two attentions agree. -/
theorem context_eq (t : Fin 256) (g : Fin 8) (i : Fin 32) (h : Fin 12) (d : Fin 64) :
    Cert.KernelIdeal.Result.context x wq wk wv t (seat g i) h d = Cert.ReferenceIdeal.RefValue.context x wq wk wv t g i h d := by
  choose σ e1 e2 using score_coe x wq wk hx hq hk t g h i
  obtain ⟨m, em⟩ := fold_max_coe σ
  have et : Cert.ReferenceIdeal.RefValue.top x wq wk t g h i = (m : EReal) := by
    rw [← em]; unfold Cert.ReferenceIdeal.RefValue.top; simp only [e2]
  have hin : ∀ j, Cert.KernelIdeal.Result.expo x wq wk t h (seat g i) (seat g j) = Ideal.exp (σ j : EReal) := by
    intro j
    unfold Cert.KernelIdeal.Result.expo
    have hg : (seat g i).val / 32 = (seat g j).val / 32 := by
      show (32 * g.val + i.val) / 32 = (32 * g.val + j.val) / 32
      omega
    rw [if_pos hg, e1, add_zero]
  have hout : ∀ b : Fin 256, b.val / 32 ≠ g.val → Cert.KernelIdeal.Result.expo x wq wk t h (seat g i) b = 0 := by
    intro b hb
    unfold Cert.KernelIdeal.Result.expo
    have hg : ¬ (seat g i).val / 32 = b.val / 32 := by
      show ¬ (32 * g.val + i.val) / 32 = b.val / 32
      omega
    rw [if_neg hg, EReal.add_bot]
    rfl
  unfold Cert.KernelIdeal.Result.context Cert.ReferenceIdeal.RefValue.context
  rw [sum_group g _ (fun b hb => by rw [hout b hb, zero_mul]), sum_group g _ (fun b hb => by rw [hout b hb, zero_mul])]
  simp only [hin, e2, et]
  exact softmax_eq σ (fun j => Cert.KernelIdeal.Result.proj x wv t (seat g j) (feat h d)) m

end Context

/-! ## The precondition, read -/

/-- A magnitude below +∞ is a real number's. -/
theorem finite_of_abs {s : Shape} (x : FVec Ideal s .f32) (hb : (⟨0, ![]⟩ : Shape).BroadcastsInDim s ![])
    (h : cmpf .olt (Host.absf x) (broadcastInDim s ![] hb (constant (F := Ideal) ⟨0, ![]⟩ .f32 0x7F800000#32)) = fun _ => 1#1) :
    Finite (s := s) x := by
  refine ⟨fun i => EReal.toReal (x i), fun i => (EReal.coe_toReal ?_ ?_).symm⟩
  all_goals
    intro e
    have hi := congrFun h i
    have hi' : Ideal.cmp .olt (max (x i : EReal) (-(x i : EReal))) (Ideal.ofBits .f32 0x7F800000#32) = 1#1 := hi
    rw [e] at hi'
    simp [Ideal.cmp, Ideal.ofBits, Ideal.ieee] at hi'

/-- Adjacent group ids in order: all of them in order. -/
theorem sorted_of_adjacent (x : IVec ⟨1, ![256]⟩ 32) (h0 : (⟨1, ![256]⟩ : Shape).Slices ![0] ⟨1, ![255]⟩) (h1 : (⟨1, ![256]⟩ : Shape).Slices ![1] ⟨1, ![255]⟩)
    (h : cmpi .sle (extractStridedSlice ⟨1, ![255]⟩ ![0] x h0) (extractStridedSlice ⟨1, ![255]⟩ ![1] x h1) = fun _ => 1#1) :
    ∀ a b : Fin 256, a < b → (x (ValueIdx.ix1 b)).slt (x (ValueIdx.ix1 a)) = false := by
  have step : ∀ n (hn : n < 255), (x (ValueIdx.ix1 (⟨n, by omega⟩ : Fin 256))).toInt ≤ (x (ValueIdx.ix1 (⟨n + 1, by omega⟩ : Fin 256))).toInt := by
    intro n hn
    have hi := congrFun h (ValueIdx.ix1 (⟨n, hn⟩ : Fin 255))
    have e0 : extractStridedSlice ⟨1, ![255]⟩ ![0] x h0 (ValueIdx.ix1 (⟨n, hn⟩ : Fin 255)) = x (ValueIdx.ix1 (⟨n, by omega⟩ : Fin 256)) :=
      extractStridedSlice_apply _ x h0 _ _ (fun a => by match a with | ⟨0, _⟩ => exact (Nat.zero_add n).symm)
    have e1 : extractStridedSlice ⟨1, ![255]⟩ ![1] x h1 (ValueIdx.ix1 (⟨n, hn⟩ : Fin 255)) = x (ValueIdx.ix1 (⟨n + 1, by omega⟩ : Fin 256)) :=
      extractStridedSlice_apply _ x h1 _ _ (fun a => by match a with | ⟨0, _⟩ => exact Nat.add_comm n 1)
    have hi' : IntOp.cmpi .sle (x (ValueIdx.ix1 (⟨n, by omega⟩ : Fin 256))) (x (ValueIdx.ix1 (⟨n + 1, by omega⟩ : Fin 256))) = 1#1 := by
      rw [← e0, ← e1]; exact hi
    have hs : (x (ValueIdx.ix1 (⟨n, by omega⟩ : Fin 256))).sle (x (ValueIdx.ix1 (⟨n + 1, by omega⟩ : Fin 256))) = true :=
      (StableHlo.Predicate.ofBool_eq_one_iff _).mp hi'
    exact of_decide_eq_true hs
  have mono : ∀ k n (hn : n + k < 256), (x (ValueIdx.ix1 (⟨n, by omega⟩ : Fin 256))).toInt ≤ (x (ValueIdx.ix1 (⟨n + k, hn⟩ : Fin 256))).toInt := by
    intro k
    induction k with
    | zero => intro n hn; exact le_refl _
    | succ k ih => intro n hn; exact (ih n (by omega)).trans (step (n + k) (by omega))
  intro a b hab
  have := mono (b.val - a.val) a.val (by omega)
  have e : (⟨a.val + (b.val - a.val), by omega⟩ : Fin 256) = b := Fin.ext (by show a.val + (b.val - a.val) = b.val; omega)
  rw [e] at this
  rw [BitVec.slt, decide_eq_false_iff_not]
  exact not_lt.mpr this

section Result

variable (x : SX.Idx → EReal) (ids : IVec ⟨1, ![256]⟩ 32) (wq wk wv wo : SW.Idx → EReal)
  (hx : Finite x) (hq : Finite wq) (hk : Finite wk) (h2 : ∀ a b : Fin 256, a < b → (ids (ValueIdx.ix1 b)).slt (ids (ValueIdx.ix1 a)) = false)

include hx hq hk h2

/-- The two results at one row of one group. -/
theorem entry_eq (t : Fin 256) (g : Fin 8) (j : Fin 32) (n : Fin 768) :
    Cert.KernelIdeal.Result.out x wq wk wv wo t (seat g j) n = Cert.ReferenceIdeal.Read.val_main_v36 (F := Ideal) x ids wq wk wv wo (ValueIdx.ix3 t (seat g j) n) :=
  (Finset.sum_congr rfl fun f _ => congrArg (· * _) (context_eq x wq wk wv hx hq hk t g j _ _)).trans
    (Cert.ReferenceIdeal.RefValue.v36_at x ids wq wk wv wo h2 t g j n).symm

/-- On real activations and real query and key weights, the group ids sorted, the two results are one array. -/
theorem result_eq : (fun i : SX.Idx => Cert.KernelIdeal.Result.out x wq wk wv wo (i 0) (i 1) (i 2))
    = Cert.ReferenceIdeal.Read.val_main_v36 (F := Ideal) x ids wq wk wv wo := by
  have row : ∀ t b n, Cert.KernelIdeal.Result.out x wq wk wv wo t b n = Cert.ReferenceIdeal.Read.val_main_v36 (F := Ideal) x ids wq wk wv wo (ValueIdx.ix3 t b n) := by
    intro t b n
    rw [seat_split b]
    exact entry_eq x ids wq wk wv wo hx hq hk h2 t _ _ n
  exact funext fun i => (row (i 0) (i 1) (i 2)).trans (congrArg _ (ValueIdx.eq_ix3 i).symm)

end Result

end Attention
-- ==== Proof.lean ====
/- The claims about the grouped attention kernel: the frames of the two kernel programs and of the reference, the kernel's
   rewriting to exact arithmetic, and the equality of the kernel's result and the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_sorted_and_finite
public import proofs.«01_k».proof.Proof.Gen.ReferenceIdeal.Run
public import proofs.«01_k».proof.Proof.Gen.ReferenceIdeal.Read
public import proofs.«01_k».proof.Proof.Agree
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's frame: its run keeps the arguments and it has no semaphore. -/
theorem reference_frame : Cert.quiescent_ReferenceIdeal :=
  fun m ρ _ => (θ_run Cert.ReferenceIdeal.defs _ _).mono (fun r h => ⟨fun c => (h c).2,
    Idealize.ShloMosaic.sem_eq_zero_of_no_sems (by decide) r.2⟩) (Cert.ReferenceIdeal.Value.run (F := Ideal) m ρ)

open Cert.Pre_sorted_and_finite.Gen in
/-- The two results agree wherever the precondition holds. -/
theorem algebraic : Cert.algebraic_KernelIdeal_ReferenceIdeal_pre_sorted_and_finite := by
  intro m g m' g' hpre hagree
  refine ⟨fun c => Cert.KernelIdeal.Result.array m c, ?_, ?_⟩
  · refine (θ_run Cert.KernelIdeal.defs _ _).mono (fun r h c => ?_) (Cert.KernelIdeal.Value.run_blocks (F := Ideal) m g)
    exact ⟨(h c).1.trans (Cert.KernelIdeal.Result.final m c), (h c).2⟩
  · refine (θ_run Cert.ReferenceIdeal.defs _ _).mono (fun r h c => ?_) (Cert.ReferenceIdeal.Value.run (F := Ideal) m' g')
    refine ⟨(h c).1.trans ?_, (h c).2⟩
    obtain ⟨a0, _, a2, a3, a4, a5, a6⟩ := hagree c
    obtain ⟨p2, p0, p3, p4⟩ := hpre c
    rw [Cert.ReferenceIdeal.Read.val_main_v36_eq]
    rw [a0, a2, a3, a4, a5, a6]
    exact (Attention.result_eq _ _ _ _ _ _ (Attention.finite_of_abs _ _ p0) (Attention.finite_of_abs _ _ p3) (Attention.finite_of_abs _ _ p4)
      (Attention.sorted_of_adjacent _ _ _ p2)).symm

theorem claim : Cert.Claim := ⟨Cert.Kernel.Gen.facts, Cert.KernelIdeal.Gen.facts, Cert.ReferenceIdeal.Gen.facts, Cert.Pre_sorted_and_finite.Gen.facts,
  fun m ρ _ => Cert.Kernel.Gen.frame m ρ, fun m ρ _ => Cert.KernelIdeal.Gen.frame m ρ,
  fun m ρ _ => Cert.KernelIdeal.Gen.frame m ρ,
  reference_frame, fun m ρ _ => reference_frame m ρ trivial,
  IdealRules.named_const.statement Cert.KernelIdeal.κ "mask" .f32 0xC1F00000#32 ⊥ rfl,
  algebraic⟩

end Cert.Proof

end
